-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "inv_800" .f32 0x3AA3D70A#32 ((1 / 800 : ℝ) : EReal)
  ∧ IdealRules.named_const.Statement Cert.KernelIdeal.κ "cap_log2e" .f32 0x429044FE#32 ((50 * (Real.log 2)⁻¹ : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v156) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_v158) = v5 c
          ∧ r.2.mem ((c.tc : Thread Cert.ReferenceIdeal.nD Cert.ReferenceIdeal.τ).loc Cert.ReferenceIdeal.main_v77) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S3x896x2048 : Shape := ⟨3, ![3, 896, 2048]⟩
abbrev S3x896x1024 : Shape := ⟨3, ![3, 896, 1024]⟩
abbrev S3x896x8x256 : Shape := ⟨4, ![3, 896, 8, 256]⟩
abbrev S_ : Shape := ⟨0, ![]⟩
abbrev S3x896x8 : Shape := ⟨3, ![3, 896, 8]⟩
abbrev S3x896x4x256 : Shape := ⟨4, ![3, 896, 4, 256]⟩
abbrev S3x896x4 : Shape := ⟨3, ![3, 896, 4]⟩
abbrev S3x896x16 : Shape := ⟨3, ![3, 896, 16]⟩

class Facts : Prop where
  bitsLt_bf16_f32 : FTy.bits .bf16 < FTy.bits .f32
  shapeCasts_S3x896x2048_S3x896x8x256 : S3x896x2048.ShapeCasts S3x896x8x256
  reducesTo_S3x896x8x256_S3x896x8_d3 : S3x896x8x256.ReducesTo [3] S3x896x8
  h_S_ : 0 < S_.numel
  bcast_S_S3x896x8 : S_.BroadcastsInDim S3x896x8 (![] : Fin 0 → Fin S3x896x8.rank)
  shapeCasts_S3x896x1024_S3x896x4x256 : S3x896x1024.ShapeCasts S3x896x4x256
  reducesTo_S3x896x4x256_S3x896x4_d3 : S3x896x4x256.ReducesTo [3] S3x896x4
  bcast_S_S3x896x4 : S_.BroadcastsInDim S3x896x4 (![] : Fin 0 → Fin S3x896x4.rank)
  concatenates_S3x896x8_S3x896x4_S3x896x4_S3x896x16_d2 : Shape.Concatenates [S3x896x8, S3x896x4, S3x896x4] S3x896x16 2
  reducesTo_S3x896x16_S_d0_1_2 : S3x896x16.ReducesTo [0, 1, 2] S_
  bcast_S_S3x896x1024 : S_.BroadcastsInDim S3x896x1024 (![] : Fin 0 → Fin S3x896x1024.rank)
  reducesTo_S3x896x1024_S_d0_1_2 : S3x896x1024.ReducesTo [0, 1, 2] S_

variable [Facts]

def fn_part1 {F : FTy → Type} [FloatOps F] (main_arg2 : FVec F S3x896x1024 .bf16) (main_v8 : IVec S3x896x8 1) (main_v17 : IVec S3x896x4 1) : IVec S_ 1 :=
  let main_v18 : FVec F S3x896x1024 .f32 := (extf .f32 · bitsLt_bf16_f32) main_arg2
  let main_v19 : FVec F S3x896x4x256 .f32 := shapeCast S3x896x4x256 main_v18 shapeCasts_S3x896x1024_S3x896x4x256
  let main_v20 : FVec F S3x896x4x256 .f32 := Host.absf main_v19
  let main_cst_5 : FVec F S_ .f32 := constant S_ .f32 0xFF800000#32
  let main_v21 : FVec F S3x896x4 .f32 := (fun x v => Host.reduce FloatOps.maximumf x v reducesTo_S3x896x4x256_S3x896x4_d3 h_S_) main_v20 main_cst_5
  let main_cst_6 : FVec F S_ .f32 := constant S_ .f32 0x00000000#32
  let main_v22 : FVec F S3x896x4 .f32 := broadcastInDim S3x896x4 ![] bcast_S_S3x896x4 main_cst_6
  let main_v23 : IVec S3x896x4 1 := cmpf .oeq main_v21 main_v22
  let main_cst_7 : FVec F S_ .f32 := constant S_ .f32 0x05000000#32
  let main_v24 : FVec F S3x896x4 .f32 := broadcastInDim S3x896x4 ![] bcast_S_S3x896x4 main_cst_7
  let main_v25 : IVec S3x896x4 1 := cmpf .oge main_v21 main_v24
  let main_v26 : IVec S3x896x4 1 := ori main_v23 main_v25
  let main_v27 : IVec S3x896x16 1 := concatenate S3x896x16 2 [⟨S3x896x8, main_v8⟩, ⟨S3x896x4, main_v17⟩, ⟨S3x896x4, main_v26⟩] concatenates_S3x896x8_S3x896x4_S3x896x4_S3x896x16_d2
  let main_c : IVec S_ 1 := constantI S_ 1 1#1
  let main_v28 : IVec S_ 1 := (fun x v => Host.reduce IntOp.andi x v reducesTo_S3x896x16_S_d0_1_2 h_S_) main_v27 main_c
  let main_v29 : FVec F S3x896x1024 .f32 := (extf .f32 · bitsLt_bf16_f32) main_arg2
  let main_v30 : FVec F S3x896x1024 .f32 := Host.absf main_v29
  let main_cst_8 : FVec F S_ .f32 := constant S_ .f32 0x7F800000#32
  let main_v31 : FVec F S3x896x1024 .f32 := broadcastInDim S3x896x1024 ![] bcast_S_S3x896x1024 main_cst_8
  let main_v32 : IVec S3x896x1024 1 := cmpf .olt main_v30 main_v31
  let main_c_9 : IVec S_ 1 := constantI S_ 1 1#1
  let main_v33 : IVec S_ 1 := (fun x v => Host.reduce IntOp.andi x v reducesTo_S3x896x1024_S_d0_1_2 h_S_) main_v32 main_c_9
  let main_v34 : IVec S_ 1 := andi main_v28 main_v33
  main_v34

def fn {F : FTy → Type} [FloatOps F] (main_arg0 : FVec F S3x896x2048 .bf16) (main_arg1 : FVec F S3x896x1024 .bf16) (main_arg2 : FVec F S3x896x1024 .bf16) : IVec S_ 1 :=
  let main_v0 : FVec F S3x896x2048 .f32 := (extf .f32 · bitsLt_bf16_f32) main_arg0
  let main_v1 : FVec F S3x896x8x256 .f32 := shapeCast S3x896x8x256 main_v0 shapeCasts_S3x896x2048_S3x896x8x256
  let main_v2 : FVec F S3x896x8x256 .f32 := Host.absf main_v1
  let main_cst : FVec F S_ .f32 := constant S_ .f32 0xFF800000#32
  let main_v3 : FVec F S3x896x8 .f32 := (fun x v => Host.reduce FloatOps.maximumf x v reducesTo_S3x896x8x256_S3x896x8_d3 h_S_) main_v2 main_cst
  let main_cst_0 : FVec F S_ .f32 := constant S_ .f32 0x00000000#32
  let main_v4 : FVec F S3x896x8 .f32 := broadcastInDim S3x896x8 ![] bcast_S_S3x896x8 main_cst_0
  let main_v5 : IVec S3x896x8 1 := cmpf .oeq main_v3 main_v4
  let main_cst_1 : FVec F S_ .f32 := constant S_ .f32 0x05000000#32
  let main_v6 : FVec F S3x896x8 .f32 := broadcastInDim S3x896x8 ![] bcast_S_S3x896x8 main_cst_1
  let main_v7 : IVec S3x896x8 1 := cmpf .oge main_v3 main_v6
  let main_v8 : IVec S3x896x8 1 := ori main_v5 main_v7
  let main_v9 : FVec F S3x896x1024 .f32 := (extf .f32 · bitsLt_bf16_f32) main_arg1
  let main_v10 : FVec F S3x896x4x256 .f32 := shapeCast S3x896x4x256 main_v9 shapeCasts_S3x896x1024_S3x896x4x256
  let main_v11 : FVec F S3x896x4x256 .f32 := Host.absf main_v10
  let main_cst_2 : FVec F S_ .f32 := constant S_ .f32 0xFF800000#32
  let main_v12 : FVec F S3x896x4 .f32 := (fun x v => Host.reduce FloatOps.maximumf x v reducesTo_S3x896x4x256_S3x896x4_d3 h_S_) main_v11 main_cst_2
  let main_cst_3 : FVec F S_ .f32 := constant S_ .f32 0x00000000#32
  let main_v13 : FVec F S3x896x4 .f32 := broadcastInDim S3x896x4 ![] bcast_S_S3x896x4 main_cst_3
  let main_v14 : IVec S3x896x4 1 := cmpf .oeq main_v12 main_v13
  let main_cst_4 : FVec F S_ .f32 := constant S_ .f32 0x05000000#32
  let main_v15 : FVec F S3x896x4 .f32 := broadcastInDim S3x896x4 ![] bcast_S_S3x896x4 main_cst_4
  let main_v16 : IVec S3x896x4 1 := cmpf .oge main_v12 main_v15
  let main_v17 : IVec S3x896x4 1 := ori main_v14 main_v16
  fn_part1 (F := F) main_arg2 main_v8 main_v17
-- ==== Kernel.lean ====
abbrev S3x896x2048 : Shape := ⟨3, ![3, 896, 2048]⟩
abbrev S3x896x1024 : Shape := ⟨3, ![3, 896, 1024]⟩
abbrev S3x896x8 : Shape := ⟨3, ![3, 896, 8]⟩
abbrev S3x896x4 : Shape := ⟨3, ![3, 896, 4]⟩
abbrev S1x896x512 : Shape := ⟨3, ![1, 896, 512]⟩
abbrev S1x896x256 : Shape := ⟨3, ![1, 896, 256]⟩
abbrev S1x896x8 : Shape := ⟨3, ![1, 896, 8]⟩
abbrev S1x896x4 : Shape := ⟨3, ![1, 896, 4]⟩
abbrev S896x128 : Shape := ⟨2, ![896, 128]⟩
abbrev S256x896 : Shape := ⟨2, ![256, 896]⟩
abbrev S896x256 : Shape := ⟨2, ![896, 256]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S128x4 : Shape := ⟨2, ![128, 4]⟩
abbrev S1x128x4 : Shape := ⟨3, ![1, 128, 4]⟩
abbrev S256x128 : Shape := ⟨2, ![256, 128]⟩
abbrev S16x8x128 : Shape := ⟨3, ![16, 8, 128]⟩
abbrev S8x128 : Shape := ⟨2, ![8, 128]⟩
abbrev S1x128 : Shape := ⟨2, ![1, 128]⟩
abbrev S128x8 : Shape := ⟨2, ![128, 8]⟩
abbrev S1x128x8 : Shape := ⟨3, ![1, 128, 8]⟩
abbrev S256x256 : Shape := ⟨2, ![256, 256]⟩
abbrev S768x128 : Shape := ⟨2, ![768, 128]⟩
abbrev S256x768 : Shape := ⟨2, ![256, 768]⟩
abbrev S768x256 : Shape := ⟨2, ![768, 256]⟩
abbrev S640x128 : Shape := ⟨2, ![640, 128]⟩
abbrev S256x640 : Shape := ⟨2, ![256, 640]⟩
abbrev S640x256 : Shape := ⟨2, ![640, 256]⟩
abbrev S512x128 : Shape := ⟨2, ![512, 128]⟩
abbrev S256x512 : Shape := ⟨2, ![256, 512]⟩
abbrev S512x256 : Shape := ⟨2, ![512, 256]⟩
abbrev S384x128 : Shape := ⟨2, ![384, 128]⟩
abbrev S256x384 : Shape := ⟨2, ![256, 384]⟩
abbrev S384x256 : Shape := ⟨2, ![384, 256]⟩

abbrev nBuf : Space → Nat
  | .hbm => 10
  | .vmem => 24
  | .smem => 0
  | _ => 0

abbrev bufTy : (tb : Table) → Fin (tcTables nBuf tb) → BufTy
  | .hbm, ⟨0, _⟩ => ⟨S3x896x2048, .bf16⟩
  | .hbm, ⟨1, _⟩ => ⟨S3x896x1024, .bf16⟩
  | .hbm, ⟨2, _⟩ => ⟨S3x896x1024, .bf16⟩
  | .hbm, ⟨3, _⟩ => ⟨S3x896x2048, .bf16⟩
  | .hbm, ⟨4, _⟩ => ⟨S3x896x2048, .fp8e4m3⟩
  | .hbm, ⟨5, _⟩ => ⟨S3x896x8, .f32⟩
  | .hbm, ⟨6, _⟩ => ⟨S3x896x1024, .fp8e4m3⟩
  | .hbm, ⟨7, _⟩ => ⟨S3x896x4, .f32⟩
  | .hbm, ⟨8, _⟩ => ⟨S3x896x1024, .fp8e4m3⟩
  | .hbm, ⟨9, _⟩ => ⟨S3x896x4, .f32⟩
  | .local _ .vmem, ⟨0, _⟩ => ⟨S1x896x512, .bf16⟩
  | .local _ .vmem, ⟨1, _⟩ => ⟨S1x896x512, .bf16⟩
  | .local _ .vmem, ⟨2, _⟩ => ⟨S1x896x256, .bf16⟩
  | .local _ .vmem, ⟨3, _⟩ => ⟨S1x896x256, .bf16⟩
  | .local _ .vmem, ⟨4, _⟩ => ⟨S1x896x256, .bf16⟩
  | .local _ .vmem, ⟨5, _⟩ => ⟨S1x896x256, .bf16⟩
  | .local _ .vmem, ⟨6, _⟩ => ⟨S1x896x512, .bf16⟩
  | .local _ .vmem, ⟨7, _⟩ => ⟨S1x896x512, .bf16⟩
  | .local _ .vmem, ⟨8, _⟩ => ⟨S1x896x512, .fp8e4m3⟩
  | .local _ .vmem, ⟨9, _⟩ => ⟨S1x896x512, .fp8e4m3⟩
  | .local _ .vmem, ⟨10, _⟩ => ⟨S1x896x8, .f32⟩
  | .local _ .vmem, ⟨11, _⟩ => ⟨S1x896x8, .f32⟩
  | .local _ .vmem, ⟨12, _⟩ => ⟨S1x896x256, .fp8e4m3⟩
  | .local _ .vmem, ⟨13, _⟩ => ⟨S1x896x256, .fp8e4m3⟩
  | .local _ .vmem, ⟨14, _⟩ => ⟨S1x896x4, .f32⟩
  | .local _ .vmem, ⟨15, _⟩ => ⟨S1x896x4, .f32⟩
  | .local _ .vmem, ⟨16, _⟩ => ⟨S1x896x256, .fp8e4m3⟩
  | .local _ .vmem, ⟨17, _⟩ => ⟨S1x896x256, .fp8e4m3⟩
  | .local _ .vmem, ⟨18, _⟩ => ⟨S1x896x4, .f32⟩
  | .local _ .vmem, ⟨19, _⟩ => ⟨S1x896x4, .f32⟩
  | .local _ .vmem, ⟨20, _⟩ => ⟨S896x128, .f32⟩
  | .local _ .vmem, ⟨21, _⟩ => ⟨S896x128, .f32⟩
  | .local _ .vmem, ⟨22, _⟩ => ⟨S256x896, .fp8e4m3⟩
  | .local _ .vmem, ⟨23, _⟩ => ⟨S896x256, .f32⟩
  | _, _ => ⟨S3x896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x896x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x896x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x896x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x896x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x896x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x896x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x896x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x896x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x896x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x896x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "cap_log2e" => some ((50 * (Real.log 2)⁻¹ : ℝ) : EReal)
  | "inv_800" => some ((1 / 800 : ℝ) : EReal)
  | "inv_ln2" => some (((Real.log 2)⁻¹ : ℝ) : EReal)
  | _ => none
-- ==== ReferenceIdeal.lean ====
abbrev S3x896x2048 : Shape := ⟨3, ![3, 896, 2048]⟩
abbrev S3x896x1024 : Shape := ⟨3, ![3, 896, 1024]⟩
abbrev S3x896x8x256 : Shape := ⟨4, ![3, 896, 8, 256]⟩
abbrev S_ : Shape := ⟨0, ![]⟩
abbrev S3x896x8 : Shape := ⟨3, ![3, 896, 8]⟩
abbrev S3x896x8x1 : Shape := ⟨4, ![3, 896, 8, 1]⟩
abbrev S3x896x4x256 : Shape := ⟨4, ![3, 896, 4, 256]⟩
abbrev S3x896x4 : Shape := ⟨3, ![3, 896, 4]⟩
abbrev S3x896x4x1 : Shape := ⟨4, ![3, 896, 4, 1]⟩
abbrev S3x896x4x2x256 : Shape := ⟨5, ![3, 896, 4, 2, 256]⟩
abbrev S3x4x2x896x256 : Shape := ⟨5, ![3, 4, 2, 896, 256]⟩
abbrev S3x4x896x256 : Shape := ⟨4, ![3, 4, 896, 256]⟩
abbrev S3x896x4x2 : Shape := ⟨4, ![3, 896, 4, 2]⟩
abbrev S3x4x2x896 : Shape := ⟨4, ![3, 4, 2, 896]⟩
abbrev S3x4x2x896x1 : Shape := ⟨5, ![3, 4, 2, 896, 1]⟩
abbrev S3x4x896 : Shape := ⟨3, ![3, 4, 896]⟩
abbrev S3x4x1x1x896 : Shape := ⟨5, ![3, 4, 1, 1, 896]⟩
abbrev S3x4x2x896x896 : Shape := ⟨5, ![3, 4, 2, 896, 896]⟩
abbrev S896 : Shape := ⟨1, ![896]⟩
abbrev S1x896 : Shape := ⟨2, ![1, 896]⟩
abbrev S896x1 : Shape := ⟨2, ![896, 1]⟩
abbrev S896x896 : Shape := ⟨2, ![896, 896]⟩

abbrev nBuf : Space → Nat
  | .hbm => 240
  | .vmem => 0
  | .smem => 0
  | _ => 0

abbrev hbmTy0_0 (i : Nat) : BufTy := match i % 128 with
  | 0 => ⟨S3x896x2048, .bf16⟩
  | 1 => ⟨S3x896x1024, .bf16⟩
  | 2 => ⟨S3x896x1024, .bf16⟩
  | 3 => ⟨S3x896x2048, .f32⟩
  | 4 => ⟨S3x896x8x256, .f32⟩
  | 5 => ⟨S3x896x8x256, .f32⟩
  | 6 => ⟨S_, .f32⟩
  | 7 => ⟨S3x896x8, .f32⟩
  | 8 => ⟨S3x896x8x1, .f32⟩
  | 9 => ⟨S_, .f32⟩
  | 10 => ⟨S3x896x8x1, .f32⟩
  | 11 => ⟨S3x896x8x1, .f32⟩
  | 12 => ⟨S3x896x8x1, .f32⟩
  | 13 => ⟨S_, .f32⟩
  | 14 => ⟨S_, .f32⟩
  | 15 => ⟨S3x896x8x1, .f32⟩
  | 16 => ⟨S3x896x8x1, .f32⟩
  | 17 => ⟨S3x896x8x1, .f32⟩
  | 18 => ⟨S_, .f32⟩
  | 19 => ⟨S3x896x8x1, .f32⟩
  | 20 => ⟨S3x896x8x1, .f32⟩
  | 21 => ⟨S_, .f32⟩
  | 22 => ⟨S3x896x8x1, .f32⟩
  | 23 => ⟨S3x896x8x1, .i1⟩
  | 24 => ⟨S_, .f32⟩
  | 25 => ⟨S_, .f32⟩
  | 26 => ⟨S3x896x8x1, .f32⟩
  | 27 => ⟨S3x896x8x1, .f32⟩
  | 28 => ⟨S_, .f32⟩
  | 29 => ⟨S3x896x8x1, .f32⟩
  | 30 => ⟨S3x896x8x1, .f32⟩
  | 31 => ⟨S3x896x8x1, .f32⟩
  | 32 => ⟨S_, .f32⟩
  | 33 => ⟨S3x896x8x1, .f32⟩
  | 34 => ⟨S3x896x8x1, .f32⟩
  | 35 => ⟨S3x896x8x256, .f32⟩
  | 36 => ⟨S3x896x8x256, .f32⟩
  | 37 => ⟨S_, .f32⟩
  | 38 => ⟨S_, .f32⟩
  | 39 => ⟨S_, .f32⟩
  | 40 => ⟨S3x896x8x256, .f32⟩
  | 41 => ⟨S3x896x8x256, .f32⟩
  | 42 => ⟨S_, .f32⟩
  | 43 => ⟨S3x896x8x256, .f32⟩
  | 44 => ⟨S3x896x8x256, .f32⟩
  | 45 => ⟨S3x896x8, .f32⟩
  | 46 => ⟨S3x896x1024, .f32⟩
  | 47 => ⟨S3x896x4x256, .f32⟩
  | 48 => ⟨S3x896x4x256, .f32⟩
  | 49 => ⟨S_, .f32⟩
  | 50 => ⟨S3x896x4, .f32⟩
  | 51 => ⟨S3x896x4x1, .f32⟩
  | 52 => ⟨S_, .f32⟩
  | 53 => ⟨S3x896x4x1, .f32⟩
  | 54 => ⟨S3x896x4x1, .f32⟩
  | 55 => ⟨S3x896x4x1, .f32⟩
  | 56 => ⟨S_, .f32⟩
  | 57 => ⟨S_, .f32⟩
  | 58 => ⟨S3x896x4x1, .f32⟩
  | 59 => ⟨S3x896x4x1, .f32⟩
  | 60 => ⟨S3x896x4x1, .f32⟩
  | 61 => ⟨S_, .f32⟩
  | 62 => ⟨S3x896x4x1, .f32⟩
  | 63 => ⟨S3x896x4x1, .f32⟩
  | 64 => ⟨S_, .f32⟩
  | 65 => ⟨S3x896x4x1, .f32⟩
  | 66 => ⟨S3x896x4x1, .i1⟩
  | 67 => ⟨S_, .f32⟩
  | 68 => ⟨S_, .f32⟩
  | 69 => ⟨S3x896x4x1, .f32⟩
  | 70 => ⟨S3x896x4x1, .f32⟩
  | 71 => ⟨S_, .f32⟩
  | 72 => ⟨S3x896x4x1, .f32⟩
  | 73 => ⟨S3x896x4x1, .f32⟩
  | 74 => ⟨S3x896x4x1, .f32⟩
  | 75 => ⟨S_, .f32⟩
  | 76 => ⟨S3x896x4x1, .f32⟩
  | 77 => ⟨S3x896x4x1, .f32⟩
  | 78 => ⟨S3x896x4x256, .f32⟩
  | 79 => ⟨S3x896x4x256, .f32⟩
  | 80 => ⟨S_, .f32⟩
  | 81 => ⟨S_, .f32⟩
  | 82 => ⟨S_, .f32⟩
  | 83 => ⟨S3x896x4x256, .f32⟩
  | 84 => ⟨S3x896x4x256, .f32⟩
  | 85 => ⟨S_, .f32⟩
  | 86 => ⟨S3x896x4x256, .f32⟩
  | 87 => ⟨S3x896x4x256, .f32⟩
  | 88 => ⟨S3x896x4, .f32⟩
  | 89 => ⟨S3x896x1024, .f32⟩
  | 90 => ⟨S3x896x4x256, .f32⟩
  | 91 => ⟨S3x896x4x256, .f32⟩
  | 92 => ⟨S_, .f32⟩
  | 93 => ⟨S3x896x4, .f32⟩
  | 94 => ⟨S3x896x4x1, .f32⟩
  | 95 => ⟨S_, .f32⟩
  | 96 => ⟨S3x896x4x1, .f32⟩
  | 97 => ⟨S3x896x4x1, .f32⟩
  | 98 => ⟨S3x896x4x1, .f32⟩
  | 99 => ⟨S_, .f32⟩
  | 100 => ⟨S_, .f32⟩
  | 101 => ⟨S3x896x4x1, .f32⟩
  | 102 => ⟨S3x896x4x1, .f32⟩
  | 103 => ⟨S3x896x4x1, .f32⟩
  | 104 => ⟨S_, .f32⟩
  | 105 => ⟨S3x896x4x1, .f32⟩
  | 106 => ⟨S3x896x4x1, .f32⟩
  | 107 => ⟨S_, .f32⟩
  | 108 => ⟨S3x896x4x1, .f32⟩
  | 109 => ⟨S3x896x4x1, .i1⟩
  | 110 => ⟨S_, .f32⟩
  | 111 => ⟨S_, .f32⟩
  | 112 => ⟨S3x896x4x1, .f32⟩
  | 113 => ⟨S3x896x4x1, .f32⟩
  | 114 => ⟨S_, .f32⟩
  | 115 => ⟨S3x896x4x1, .f32⟩
  | 116 => ⟨S3x896x4x1, .f32⟩
  | 117 => ⟨S3x896x4x1, .f32⟩
  | 118 => ⟨S_, .f32⟩
  | 119 => ⟨S3x896x4x1, .f32⟩
  | 120 => ⟨S3x896x4x1, .f32⟩
  | 121 => ⟨S3x896x4x256, .f32⟩
  | 122 => ⟨S3x896x4x256, .f32⟩
  | 123 => ⟨S_, .f32⟩
  | 124 => ⟨S_, .f32⟩
  | 125 => ⟨S_, .f32⟩
  | 126 => ⟨S3x896x4x256, .f32⟩
  | 127 => ⟨S3x896x4x256, .f32⟩
  | _ => ⟨S3x896x2048, .bf16⟩

abbrev hbmTy0_1 (i : Nat) : BufTy := match i % 128 with
  | 0 => ⟨S_, .f32⟩
  | 1 => ⟨S3x896x4x256, .f32⟩
  | 2 => ⟨S3x896x4x256, .f32⟩
  | 3 => ⟨S3x896x4, .f32⟩
  | 4 => ⟨S3x896x4x2x256, .f32⟩
  | 5 => ⟨S3x4x2x896x256, .f32⟩
  | 6 => ⟨S3x4x896x256, .f32⟩
  | 7 => ⟨S3x4x896x256, .f32⟩
  | 8 => ⟨S3x896x4x2, .f32⟩
  | 9 => ⟨S3x4x2x896, .f32⟩
  | 10 => ⟨S3x4x2x896x1, .f32⟩
  | 11 => ⟨S3x4x896, .f32⟩
  | 12 => ⟨S3x4x1x1x896, .f32⟩
  | 13 => ⟨S3x4x896, .f32⟩
  | 14 => ⟨S3x4x1x1x896, .f32⟩
  | 15 => ⟨S3x4x2x896x896, .f32⟩
  | 16 => ⟨S3x4x2x896x896, .f32⟩
  | 17 => ⟨S3x4x2x896x896, .f32⟩
  | 18 => ⟨S3x4x2x896x896, .f32⟩
  | 19 => ⟨S3x4x2x896x896, .f32⟩
  | 20 => ⟨S_, .f32⟩
  | 21 => ⟨S3x4x2x896x896, .f32⟩
  | 22 => ⟨S3x4x2x896x896, .f32⟩
  | 23 => ⟨S_, .f32⟩
  | 24 => ⟨S3x4x2x896x896, .f32⟩
  | 25 => ⟨S3x4x2x896x896, .f32⟩
  | 26 => ⟨S3x4x2x896x896, .f32⟩
  | 27 => ⟨S_, .f32⟩
  | 28 => ⟨S3x4x2x896x896, .f32⟩
  | 29 => ⟨S3x4x2x896x896, .f32⟩
  | 30 => ⟨S896, .i32⟩
  | 31 => ⟨S1x896, .i32⟩
  | 32 => ⟨S896x1, .i32⟩
  | 33 => ⟨S896x896, .i32⟩
  | 34 => ⟨S896x896, .i32⟩
  | 35 => ⟨S896x896, .i1⟩
  | 36 => ⟨S3x4x2x896x896, .i1⟩
  | 37 => ⟨S_, .f32⟩
  | 38 => ⟨S3x4x2x896x896, .f32⟩
  | 39 => ⟨S3x4x2x896x896, .f32⟩
  | 40 => ⟨S_, .f32⟩
  | 41 => ⟨S3x4x2x896, .f32⟩
  | 42 => ⟨S3x4x2x896x1, .f32⟩
  | 43 => ⟨S3x4x2x896x896, .f32⟩
  | 44 => ⟨S3x4x2x896x896, .f32⟩
  | 45 => ⟨S3x4x2x896x896, .f32⟩
  | 46 => ⟨S_, .f32⟩
  | 47 => ⟨S_, .f32⟩
  | 48 => ⟨S3x4x2x896x896, .i1⟩
  | 49 => ⟨S3x4x2x896x896, .f32⟩
  | 50 => ⟨S3x4x2x896x896, .f32⟩
  | 51 => ⟨S_, .f32⟩
  | 52 => ⟨S3x4x2x896, .f32⟩
  | 53 => ⟨S3x4x2x896x1, .f32⟩
  | 54 => ⟨S3x4x2x896x896, .f32⟩
  | 55 => ⟨S3x4x2x896x896, .f32⟩
  | 56 => ⟨S3x4x2x896x896, .f32⟩
  | 57 => ⟨S_, .f32⟩
  | 58 => ⟨S3x4x2x896, .f32⟩
  | 59 => ⟨S3x4x2x896x1, .f32⟩
  | 60 => ⟨S_, .f32⟩
  | 61 => ⟨S3x4x2x896x1, .f32⟩
  | 62 => ⟨S3x4x2x896x1, .f32⟩
  | 63 => ⟨S3x4x2x896x1, .f32⟩
  | 64 => ⟨S_, .f32⟩
  | 65 => ⟨S_, .f32⟩
  | 66 => ⟨S3x4x2x896x1, .f32⟩
  | 67 => ⟨S3x4x2x896x1, .f32⟩
  | 68 => ⟨S3x4x2x896x1, .f32⟩
  | 69 => ⟨S_, .f32⟩
  | 70 => ⟨S3x4x2x896x1, .f32⟩
  | 71 => ⟨S3x4x2x896x1, .f32⟩
  | 72 => ⟨S_, .f32⟩
  | 73 => ⟨S3x4x2x896x1, .f32⟩
  | 74 => ⟨S3x4x2x896x1, .i1⟩
  | 75 => ⟨S_, .f32⟩
  | 76 => ⟨S_, .f32⟩
  | 77 => ⟨S3x4x2x896x1, .f32⟩
  | 78 => ⟨S3x4x2x896x1, .f32⟩
  | 79 => ⟨S_, .f32⟩
  | 80 => ⟨S3x4x2x896x1, .f32⟩
  | 81 => ⟨S3x4x2x896x1, .f32⟩
  | 82 => ⟨S3x4x2x896x1, .f32⟩
  | 83 => ⟨S_, .f32⟩
  | 84 => ⟨S3x4x2x896x1, .f32⟩
  | 85 => ⟨S3x4x2x896x1, .f32⟩
  | 86 => ⟨S3x4x2x896x896, .f32⟩
  | 87 => ⟨S3x4x2x896x896, .f32⟩
  | 88 => ⟨S_, .f32⟩
  | 89 => ⟨S_, .f32⟩
  | 90 => ⟨S_, .f32⟩
  | 91 => ⟨S3x4x2x896x896, .f32⟩
  | 92 => ⟨S3x4x2x896x896, .f32⟩
  | 93 => ⟨S_, .f32⟩
  | 94 => ⟨S3x4x2x896x896, .f32⟩
  | 95 => ⟨S3x4x2x896x896, .f32⟩
  | 96 => ⟨S3x4x2x896, .f32⟩
  | 97 => ⟨S3x4x2x896x256, .f32⟩
  | 98 => ⟨S3x4x2x896x1, .f32⟩
  | 99 => ⟨S3x4x2x896x256, .f32⟩
  | 100 => ⟨S3x4x2x896x256, .f32⟩
  | 101 => ⟨S3x4x2x896x256, .f32⟩
  | 102 => ⟨S3x4x2x896x256, .f32⟩
  | 103 => ⟨S3x896x4x2x256, .f32⟩
  | 104 => ⟨S3x896x2048, .f32⟩
  | 105 => ⟨S3x896x2048, .bf16⟩
  | 106 => ⟨S3x896x2048, .f32⟩
  | 107 => ⟨S3x896x2048, .fp8e4m3⟩
  | 108 => ⟨S3x896x1024, .f32⟩
  | 109 => ⟨S3x896x1024, .fp8e4m3⟩
  | 110 => ⟨S3x896x1024, .f32⟩
  | 111 => ⟨S3x896x1024, .fp8e4m3⟩
  | _ => ⟨S3x896x2048, .bf16⟩

abbrev hbmTy (i : Nat) : BufTy := match i / 128 with
  | 0 => hbmTy0_0 i
  | 1 => hbmTy0_1 i
  | _ => ⟨S3x896x2048, .bf16⟩

abbrev bufTy : (tb : Table) → Fin (tcTables nBuf tb) → BufTy
  | .hbm, ⟨i, _⟩ => hbmTy i
  | _, _ => ⟨S3x896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_call2_v0 : Ref sig .tc := ⟨.hbm, 68, rfl⟩
abbrev main_call2_v1 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_17 : Ref sig .tc := ⟨.hbm, 80, rfl⟩
abbrev main_cst_18 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_19 : Ref sig .tc := ⟨.hbm, 92, rfl⟩
abbrev main_v55 : Ref sig .tc := ⟨.hbm, 93, rfl⟩
abbrev main_v56 : Ref sig .tc := ⟨.hbm, 94, rfl⟩
abbrev main_cst_20 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_21 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_22 : Ref sig .tc := ⟨.hbm, 104, rfl⟩
abbrev main_v64 : Ref sig .tc := ⟨.hbm, 105, rfl⟩
abbrev main_v65 : Ref sig .tc := ⟨.hbm, 106, rfl⟩
abbrev main_cst_23 : Ref sig .tc := ⟨.hbm, 107, rfl⟩
abbrev main_v66 : Ref sig .tc := ⟨.hbm, 108, rfl⟩
abbrev main_v67 : Ref sig .tc := ⟨.hbm, 109, rfl⟩
abbrev main_cst_24 : Ref sig .tc := ⟨.hbm, 110, rfl⟩
abbrev main_call4_v0 : Ref sig .tc := ⟨.hbm, 111, rfl⟩
abbrev main_call4_v1 : Ref sig .tc := ⟨.hbm, 112, rfl⟩
abbrev main_v68 : Ref sig .tc := ⟨.hbm, 113, rfl⟩
abbrev main_cst_25 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_26 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_27 : Ref sig .tc := ⟨.hbm, 123, rfl⟩
abbrev main_cst_28 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_cst_29 : Ref sig .tc := ⟨.hbm, 148, rfl⟩
abbrev main_v94 : Ref sig .tc := ⟨.hbm, 149, rfl⟩
abbrev main_v95 : Ref sig .tc := ⟨.hbm, 150, rfl⟩
abbrev main_cst_30 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_31 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_32 : Ref sig .tc := ⟨.hbm, 165, rfl⟩
abbrev main_v108 : Ref sig .tc := ⟨.hbm, 166, rfl⟩
abbrev main_v109 : Ref sig .tc := ⟨.hbm, 167, rfl⟩
abbrev main_cst_33 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_cst_34 : Ref sig .tc := ⟨.hbm, 174, rfl⟩
abbrev main_call6_v0 : Ref sig .tc := ⟨.hbm, 175, rfl⟩
abbrev main_call6_v1 : Ref sig .tc := ⟨.hbm, 176, rfl⟩
abbrev main_call6_v2 : Ref sig .tc := ⟨.hbm, 177, rfl⟩
abbrev main_v115 : Ref sig .tc := ⟨.hbm, 178, rfl⟩
abbrev main_cst_35 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_cst_36 : Ref sig .tc := ⟨.hbm, 185, rfl⟩
abbrev main_v121 : Ref sig .tc := ⟨.hbm, 186, rfl⟩
abbrev main_v122 : Ref sig .tc := ⟨.hbm, 187, rfl⟩
abbrev main_cst_37 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_cst_38 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_cst_39 : Ref sig .tc := ⟨.hbm, 197, rfl⟩
abbrev main_v130 : Ref sig .tc := ⟨.hbm, 198, rfl⟩
abbrev main_v131 : Ref sig .tc := ⟨.hbm, 199, rfl⟩
abbrev main_cst_40 : Ref sig .tc := ⟨.hbm, 200, rfl⟩
abbrev main_v132 : Ref sig .tc := ⟨.hbm, 201, rfl⟩
abbrev main_v133 : Ref sig .tc := ⟨.hbm, 202, rfl⟩
abbrev main_cst_41 : Ref sig .tc := ⟨.hbm, 203, rfl⟩
abbrev main_call7_v0 : Ref sig .tc := ⟨.hbm, 204, rfl⟩
abbrev main_call7_v1 : Ref sig .tc := ⟨.hbm, 205, rfl⟩
abbrev main_v134 : Ref sig .tc := ⟨.hbm, 206, rfl⟩
abbrev main_cst_42 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_cst_43 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_cst_44 : Ref sig .tc := ⟨.hbm, 216, rfl⟩
abbrev main_cst_45 : Ref sig .tc := ⟨.hbm, 217, rfl⟩
abbrev main_call8_v0 : Ref sig .tc := ⟨.hbm, 218, rfl⟩
abbrev main_call8_v1 : Ref sig .tc := ⟨.hbm, 219, rfl⟩
abbrev main_call8_v2 : Ref sig .tc := ⟨.hbm, 220, rfl⟩
abbrev main_call8_v3 : Ref sig .tc := ⟨.hbm, 221, rfl⟩
abbrev main_call8_v4 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩

abbrev nD : Nat := 1
abbrev τ : Topo := Topo.v7x

variable {F : FTy → Type} [FloatOps F]
-- ==== Proof.Vocab.lean ====
/- The kernel's body as tiles: what each store writes, as one function of the tile's numbers and of what it reads, stated once for all seven
   row tiles and both query heads of a key-value head. -/
module

public import proofs.«01_k».proof.Proof.Gen.KernelIdeal.Frame

@[expose] public section

set_option maxRecDepth 16384

noncomputable section

namespace Cert.KernelIdeal.Vocab

open Idealize.ShloMosaic Idealize.ShloMosaic.TcCoe
open Cert.KernelIdeal.Facts₀

variable {F : FTy → Type} [FloatOps F] [Named F]

/-! ### Rectangles -/

/-- One query tile of one head. -/
abbrev rX (i : Fin 7) (g : Fin 2) : Rect S1x896x512 :=
  Rect.unit ![0, 128 * i.val, 256 * g.val] S1x128x256.size (by
    intro a; match a with
    | ⟨0, _⟩ => show 0 + 1 ≤ 1; omega
    | ⟨1, _⟩ => show 128 * i.val + 128 ≤ 896; omega
    | ⟨2, _⟩ => show 256 * g.val + 256 ≤ 512; omega)

/-- One key or value tile. -/
abbrev rK (i : Fin 7) : Rect S1x896x256 :=
  Rect.unit ![0, 128 * i.val, 0] S1x128x256.size (by
    intro a; match a with
    | ⟨0, _⟩ => show 0 + 1 ≤ 1; omega
    | ⟨1, _⟩ => show 128 * i.val + 128 ≤ 896; omega
    | ⟨2, _⟩ => show 0 + 256 ≤ 256; omega)

/-- The query scales of one tile, all eight heads. -/
abbrev rQs (i : Fin 7) : Rect S1x896x8 :=
  Rect.unit ![0, 128 * i.val, 0] S1x128x8.size (by
    intro a; match a with
    | ⟨0, _⟩ => show 0 + 1 ≤ 1; omega
    | ⟨1, _⟩ => show 128 * i.val + 128 ≤ 896; omega
    | ⟨2, _⟩ => show 0 + 8 ≤ 8; omega)

/-- The key or value scales of one tile, all four heads. -/
abbrev rKs (i : Fin 7) : Rect S1x896x4 :=
  Rect.unit ![0, 128 * i.val, 0] S1x128x4.size (by
    intro a; match a with
    | ⟨0, _⟩ => show 0 + 1 ≤ 1; omega
    | ⟨1, _⟩ => show 128 * i.val + 128 ≤ 896; omega
    | ⟨2, _⟩ => show 0 + 4 ≤ 4; omega)

/-- One tile of a scale spread over the lanes. -/
abbrev rCol (i : Fin 7) : Rect S896x128 :=
  Rect.unit ![128 * i.val, 0] S128x128.size (by
    intro a; match a with
    | ⟨0, _⟩ => show 128 * i.val + 128 ≤ 896; omega
    | ⟨1, _⟩ => show 0 + 128 ≤ 128; omega)

/-- One tile of the transposed values. -/
abbrev rVt (i : Fin 7) : Rect S256x896 :=
  Rect.unit ![0, 128 * i.val] S256x128.size (by
    intro a; match a with
    | ⟨0, _⟩ => show 0 + 256 ≤ 256; omega
    | ⟨1, _⟩ => show 128 * i.val + 128 ≤ 896; omega)

/-- One key tile of the weights of one head. -/
abbrev rW (j : Fin 7) (g : Fin 2) : Rect S896x256 :=
  Rect.unit ![128 * j.val, 128 * g.val] S128x128.size (by
    intro a; match a with
    | ⟨0, _⟩ => show 128 * j.val + 128 ≤ 896; omega
    | ⟨1, _⟩ => show 128 * g.val + 128 ≤ 256; omega)

/-- How many keys a query tile sees. -/
abbrev nk (i : Fin 7) : ℕ := 128 * (i.val + 1)

/-- The transposed values of the keys a query tile sees. -/
abbrev rVtTo (i : Fin 7) : Rect S256x896 :=
  Rect.unit ![0, 0] ![256, nk i] (by
    intro a; match a with
    | ⟨0, _⟩ => show 0 + 256 ≤ 256; omega
    | ⟨1, _⟩ => show 0 + 128 * (i.val + 1) ≤ 896; omega)

/-- The weights of the keys a query tile sees, one head. -/
abbrev rWTo (i : Fin 7) (g : Fin 2) : Rect S896x256 :=
  Rect.unit ![0, 128 * g.val] ![nk i, 128] (by
    intro a; match a with
    | ⟨0, _⟩ => show 0 + 128 * (i.val + 1) ≤ 896; omega
    | ⟨1, _⟩ => show 128 * g.val + 128 ≤ 256; omega)

/-! ### The largest power of two below a number -/

/-- A word of single precision spread over a shape. -/
abbrev k32 (s : Shape) (b : BitVec 32) : FVec F s .f32 := broadcast s (Scalar.ofBits .f32 b)
/-- A word of half-width precision spread over a shape. -/
abbrev k16 (s : Shape) (b : BitVec 16) : FVec F s .bf16 := broadcast s (Scalar.ofBits .bf16 b)

/-- A first guess at the largest power of two at most `y`, never above it and at most one doubling below. -/
def guess {s : Shape} (y : FVec F s .f32) : FVec F s .f32 :=
  exp2 (floor (subf (mulf (log y) (broadcast s (Named.named κ "inv_ln2" 0x3FB8AA3B#32))) (k32 s 0x3F000000#32)))

/-- The largest power of two at most `y`. -/
def pow2 {s : Shape} (y : FVec F s .f32) : FVec F s .f32 :=
  select (cmpf .ole (mulf (guess y) (k32 s 0x40000000#32)) y) (mulf (guess y) (k32 s 0x40000000#32)) (guess y)

/-! ### Quantising a tile of rows -/

/-- Half a tile. -/
def half {φ : FTy} (g : Fin 2) (t : FVec F S128x256 φ) : FVec F S128x128 φ :=
  extractStridedSlice S128x128 ![0, 128 * g.val] t (by
    match g with
    | 0 => exact slices_S128x256_o0_0_S128x128
    | 1 => exact slices_S128x256_o0_128_S128x128)

/-- The largest magnitude of each row, spread over the lanes. -/
def amax (t : FVec F S128x256 .bf16) : FVec F S128x128 .bf16 :=
  broadcastTo S128x128 (shapeCast S128x1 (shapeCast S128x1
    (multiReduction .maximumf [1] S128 (maximumf (half 0 (absf t)) (half 1 (absf t))) 0xFF80#16 reduces_S128x128_S128 (.inr rfl) rfl)
    shapeCasts_S128_S128x1) shapeCasts_S128x1_S128x1) broadcasts_S128x1_S128x128

/-- Eight binades above each row's scale (a row of zeros: the scale one). -/
def rowB (t : FVec F S128x256 .bf16) : FVec F S128x128 .bf16 :=
  let b := truncf .bf16 (pow2 (mulf (extf .f32 (amax t) bitsLt_bf16_f32) (k32 S128x128 0x3F924925#32))) bitsLt_bf16_f32
  select (cmpf .olt b (k16 S128x128 0x0500#16)) (k16 S128x128 0x4380#16) b

/-- Each row's scale. -/
def rowScale (t : FVec F S128x256 .bf16) : FVec F S128x128 .f32 :=
  extf .f32 (mulf (rowB t) (k16 S128x128 0x3B80#16)) bitsLt_bf16_f32

/-- The inverse of each row's scale. -/
def rowInv (t : FVec F S128x256 .bf16) : FVec F S128x128 .bf16 :=
  truncf .bf16 (divf (k32 S128x128 0x43800000#32) (extf .f32 (rowB t) bitsLt_bf16_f32)) bitsLt_bf16_f32

/-- A tile divided by its rows' scales and clamped. -/
def codes (t : FVec F S128x256 .bf16) : FVec F S128x256 .bf16 :=
  concatenate S128x256 1
    [⟨S128x128, minimumf (maximumf (mulf (half 0 t) (rowInv t)) (k16 S128x128 0xC3E0#16)) (k16 S128x128 0x43E0#16)⟩,
     ⟨S128x128, minimumf (maximumf (mulf (half 1 t) (rowInv t)) (k16 S128x128 0xC3E0#16)) (k16 S128x128 0x43E0#16)⟩]
    concatenates_S128x128_S128x128_S128x256_d1

/-- The codes at the width they are kept in. -/
def codes8 (t : FVec F S128x256 .bf16) : FVec F S128x256 .fp8e4m3 := truncf .fp8e4m3 (codes t) bitsLt_fp8e4m3_bf16

/-- A loaded tile as a matrix. -/
def mat {φ : FTy} (t : FVec F S1x128x256 φ) : FVec F S128x256 φ := shapeCast S128x256 t shapeCasts_S1x128x256_S128x256

/-- A matrix as a tile to store. -/
def unmat {φ : FTy} (t : FVec F S128x256 φ) : FVec F S1x128x256 φ := shapeCast S1x128x256 t shapeCasts_S128x256_S1x128x256

/-- Column `kv` of a tile of key or value scales replaced. -/
def setCol4 (kv : BitVec 32) (s : FVec F S128x128 .f32) (old : FVec F S1x128x4 .f32) : FVec F S1x128x4 .f32 :=
  shapeCast S1x128x4 (select (cmpi .eq (iota .tc S128x4 32 [1] iota_S128x4_d1_w32) (broadcast S128x4 kv))
    (extractStridedSlice S128x4 ![0, 0] s slices_S128x128_o0_0_S128x4) (shapeCast S128x4 old shapeCasts_S1x128x4_S128x4))
    shapeCasts_S128x4_S1x128x4

/-- Column `hd` of a tile of query scales replaced. -/
def setCol8 (hd : BitVec 32) (s : FVec F S128x128 .f32) (old : FVec F S1x128x8 .f32) : FVec F S1x128x8 .f32 :=
  shapeCast S1x128x8 (select (cmpi .eq (iota .tc S128x8 32 [1] iota_S128x8_d1_w32) (broadcast S128x8 hd))
    (extractStridedSlice S128x8 ![0, 0] s slices_S128x128_o0_0_S128x8) (shapeCast S128x8 old shapeCasts_S1x128x8_S128x8))
    shapeCasts_S128x8_S1x128x8

/-- A tile of values transposed. -/
def vtTile (t : FVec F S128x256 .bf16) : FVec F S256x128 .fp8e4m3 :=
  shapeCast S256x128 (truncf .fp8e4m3 (transpose S256x128 [1, 0] (codes t) transposes_S128x256_p1_0_S256x128) bitsLt_fp8e4m3_bf16)
    shapeCasts_S256x128_S256x128

/-- The number of a head's column. -/
def headWord (kv : BitVec 32) (g : Fin 2) : BitVec 32 := Scalar.addi (Scalar.muli kv 2#32) (BitVec.ofNat 32 g.val)

/-! ### Reductions over the rows of a tile -/

/-- Largest entry of each column, over the sixteen groups of eight rows. -/
def rmax8 (x : FVec F S128x128 .f32) : FVec F S8x128 .f32 :=
  multiReduction .maximumf [0] S8x128 (shapeCast S16x8x128 x shapeCasts_S128x128_S16x8x128) 0xFF800000#32 reduces_S16x8x128_S8x128 (.inl rfl) rfl
/-- Sum of each column, over the sixteen groups of eight rows. -/
def rsum8 (x : FVec F S128x128 .f32) : FVec F S8x128 .f32 :=
  multiReduction .add [0] S8x128 (shapeCast S16x8x128 x shapeCasts_S128x128_S16x8x128) 0x00000000#32 reduces_S16x8x128_S8x128 (.inl rfl) rfl
/-- Largest entry of each column of eight rows. -/
def rmax1 (x : FVec F S8x128 .f32) : FVec F S1x128 .f32 :=
  shapeCast S1x128 (multiReduction .maximumf [0] S128 x 0xFF800000#32 reduces_S8x128_S128 (.inl rfl) rfl) shapeCasts_S128_S1x128
/-- Sum of each column of eight rows. -/
def rsum1 (x : FVec F S8x128 .f32) : FVec F S1x128 .f32 :=
  shapeCast S1x128 (multiReduction .add [0] S128 x 0x00000000#32 reduces_S8x128_S128 (.inl rfl) rfl) shapeCasts_S128_S1x128

/-- Combine the tiles `0 … n` from the left. -/
def chain {α : Type} (op : α → α → α) (f : Fin 7 → α) : (n : ℕ) → n < 7 → α
  | 0, h => f ⟨0, h⟩
  | n + 1, h => op (chain op f n (Nat.lt_of_succ_lt h)) (f ⟨n + 1, h⟩)

/-! ### The values' largest scale -/

/-- The largest value scale, kept above zero. -/
def vmax (rv : Fin 7 → FVec F S1x128x256 .bf16) : FVec F S1x128 .f32 :=
  maximumf (rmax1 (chain maximumf (fun i => rmax8 (rowScale (mat (rv i)))) 6 (by omega))) (k32 S1x128 0x14800000#32)
/-- What the value scales are multiplied by. -/
def vnorm (rv : Fin 7 → FVec F S1x128x256 .bf16) : FVec F S1x128 .f32 :=
  mulf (divf (k32 S1x128 0x3F800000#32) (vmax rv)) (k32 S1x128 0x53800000#32)
/-- What the result is multiplied by in return. -/
def vunnorm (rv : Fin 7 → FVec F S1x128x256 .bf16) : FVec F S1x128 .f32 := mulf (vmax rv) (k32 S1x128 0x2B800000#32)

/-! ### One query tile -/

/-- The first row index at most the second: the causal mask of a diagonal tile. -/
def diagMask : IVec S128x128 1 :=
  cmpi .sle (iota .tc S128x128 32 [0] iota_S128x128_d0_w32) (iota .tc S128x128 32 [1] iota_S128x128_d1_w32)

/-- The two heads' query scales as rows. -/
def qRows (s0 s1 : FVec F S128x128 .f32) : FVec F S128x128 .f32 :=
  mulf (transpose S128x128 [1, 0]
    (select (cmpi .eq (iota .tc S128x128 32 [1] iota_S128x128_d1_w32) (broadcast S128x128 1#32)) s1 s0)
    transposes_S128x128_p1_0_S128x128) (broadcast S128x128 (Named.named κ "inv_800" 0x3AA3D70A#32))

/-- The two heads' query codes, one above the other. -/
def qCat (c0 c1 : FVec F S128x256 .fp8e4m3) : FVec F S256x256 .fp8e4m3 :=
  concatenate S256x256 0 [⟨S128x256, c0⟩, ⟨S128x256, c1⟩] concatenates_S128x256_S128x256_S256x256_d0

/-- Row `g` of the query scales. -/
def qRow (g : Fin 2) (r : FVec F S128x128 .f32) : FVec F S1x128 .f32 :=
  extractStridedSlice S1x128 ![g.val, 0] r (by
    match g with
    | 0 => exact slices_S128x128_o0_0_S1x128
    | 1 => exact slices_S128x128_o1_0_S1x128)

/-- The capped scores of one key tile against one query tile, in the exponent's base. -/
def capped (g : Fin 2) (kc : FVec F S1x128x256 .fp8e4m3) (kcol : FVec F S128x128 .f32) (qc : FVec F S256x256 .fp8e4m3)
    (qr : FVec F S128x128 .f32) : FVec F S128x128 .f32 :=
  mulf (tanh (mulf (mulf (half g (matmul dot_S128x256_S256x256_S128x256_1_1_0_0_n_n none (mat kc) qc (constant S128x256 .f32 0x00000000#32))) kcol)
    (broadcastTo S128x128 (qRow g qr) broadcasts_S1x128_S128x128)))
    (broadcast S128x128 (Named.named κ "cap_log2e" 0x429044FE#32))

/-- The exponentials of one key tile against one query tile, masked on the diagonal. -/
def expTile (diag : Bool) (g : Fin 2) (kc : FVec F S1x128x256 .fp8e4m3) (kcol : FVec F S128x128 .f32) (qc : FVec F S256x256 .fp8e4m3)
    (qr : FVec F S128x128 .f32) : FVec F S128x128 .f32 :=
  match diag with
  | true => exp2 (select diagMask (capped g kc kcol qc qr) (k32 S128x128 0xFF800000#32))
  | false => exp2 (capped g kc kcol qc qr)

/-- The scale-finding power of two of the weights, one where there is none. -/
def wB (em wm : FVec F S1x128 .f32) : FVec F S1x128 .f32 :=
  let b := pow2 (mulf (mulf wm (divf (k32 S1x128 0x3F800000#32) em)) (k32 S1x128 0x3B124925#32))
  select (cmpf .oeq b (k32 S1x128 0x00000000#32)) (k32 S1x128 0x3F000000#32) b

/-- What the weights are multiplied by before they are clamped. -/
def wMult (em wm : FVec F S1x128 .f32) : FVec F S1x128 .f32 :=
  mulf (divf (k32 S1x128 0x3F800000#32) em) (divf (k32 S1x128 0x3F000000#32) (wB em wm))

/-- What the product is multiplied by. -/
def wFactor (em es wm vun : FVec F S1x128 .f32) : FVec F S1x128 .f32 :=
  mulf (divf (mulf (mulf (wB em wm) (k32 S1x128 0x40000000#32)) em) es) vun

/-- A row of lanes spreads over any number of rows. -/
theorem bcastRows (n : ℕ) : S1x128.Broadcasts ⟨2, ![n, 128]⟩ :=
  ⟨le_refl 2, fun a => by match a with | 0 => exact .inl rfl | 1 => exact .inr fun _ => rfl⟩

/-- Two blocks of lanes lie side by side over any number of rows. -/
theorem concatRows (n : ℕ) : Shape.Concatenates [(⟨2, ![n, 128]⟩ : Shape), ⟨2, ![n, 128]⟩] ⟨2, ![n, 256]⟩ 1 :=
  ⟨le_refl 2, fun s hs => by
    have : s = ⟨2, ![n, 128]⟩ := by simpa using hs
    subst this
    exact ⟨rfl, fun b hb => by match b with | 0 => rfl | 1 => exact absurd rfl hb⟩, rfl⟩

/-- The quantised weights of one head. -/
def wCodes (n : ℕ) (em wm : FVec F S1x128 .f32) (w : FVec F ⟨2, ![n, 128]⟩ .f32) : FVec F ⟨2, ![n, 128]⟩ .fp8e4m3 :=
  truncf .fp8e4m3 (minimumf (maximumf (mulf w (broadcastTo ⟨2, ![n, 128]⟩ (wMult em wm) (bcastRows n))) (k32 _ 0xC3E00000#32))
    (k32 _ 0x43E00000#32)) bitsLt_fp8e4m3_f32

/-- The product of the transposed values with both heads' weight codes. -/
def wDot (n : ℕ) (vt : FVec F ⟨2, ![256, n]⟩ .fp8e4m3) (w0 w1 : FVec F ⟨2, ![n, 128]⟩ .fp8e4m3) : FVec F S256x256 .f32 :=
  matmul (DotDims.plain 256 n 256) none vt
    (concatenate ⟨2, ![n, 256]⟩ 1 [⟨⟨2, ![n, 128]⟩, w0⟩, ⟨⟨2, ![n, 128]⟩, w1⟩] (concatRows n)) (constant S256x256 .f32 0x00000000#32)

/-- One head's half of the product, rescaled and turned back. -/
def outTile (g : Fin 2) (o : FVec F S256x256 .f32) (f : FVec F S1x128 .f32) : FVec F S1x128x256 .bf16 :=
  unmat (transpose S128x256 [1, 0] (truncf .bf16 (mulf
    (extractStridedSlice S256x128 ![0, 128 * g.val] o (by
      match g with
      | 0 => exact slices_S256x256_o0_0_S256x128
      | 1 => exact slices_S256x256_o0_128_S256x128))
    (broadcastTo S256x128 f broadcasts_S1x128_S256x128)) bitsLt_bf16_f32) transposes_S256x128_p1_0_S128x256)

/-! ### What the stores write, given what the loads read -/

section stores

variable (kv : BitVec 32) (rx : Fin 7 → Fin 2 → FVec F S1x128x256 .bf16) (rk rv : Fin 7 → FVec F S1x128x256 .bf16)
  (rkc : Fin 7 → FVec F S1x128x256 .fp8e4m3) (rkcol rvcol : Fin 7 → FVec F S128x128 .f32)
  (rvt : (i : Fin 7) → FVec F ⟨2, ![256, nk i]⟩ .fp8e4m3) (rw : (i : Fin 7) → Fin 2 → FVec F ⟨2, ![nk i, 128]⟩ .f32)

/-- The weights' exponentials of query tile `i`, head `g`, key tile `j`. -/
def expT (i : Fin 7) (g : Fin 2) (j : Fin 7) : FVec F S128x128 .f32 :=
  expTile (decide (j = i)) g (rkc j) (rkcol j) (qCat (codes8 (mat (rx i 0))) (codes8 (mat (rx i 1))))
    (qRows (rowScale (mat (rx i 0))) (rowScale (mat (rx i 1))))

/-- The exponentials times the normalised value scales. -/
def wT (i : Fin 7) (g : Fin 2) (j : Fin 7) : FVec F S128x128 .f32 := mulf (expT rx rkc rkcol i g j) (rvcol j)

/-- Largest exponential of each query. -/
def em (i : Fin 7) (g : Fin 2) : FVec F S1x128 .f32 := rmax1 (chain maximumf (fun j => rmax8 (expT rx rkc rkcol i g j)) i.val i.isLt)
/-- Sum of each query's exponentials. -/
def es (i : Fin 7) (g : Fin 2) : FVec F S1x128 .f32 := rsum1 (chain addf (fun j => rsum8 (expT rx rkc rkcol i g j)) i.val i.isLt)
/-- Largest weight of each query. -/
def wm (i : Fin 7) (g : Fin 2) : FVec F S1x128 .f32 := rmax1 (chain maximumf (fun j => rmax8 (wT rx rkc rkcol rvcol i g j)) i.val i.isLt)

/-- The result's tile of query tile `i`, head `g`. -/
def outT (i : Fin 7) (g : Fin 2) : FVec F S1x128x256 .bf16 :=
  outTile g (wDot (nk i) (rvt i)
      (wCodes (nk i) (em rx rkc rkcol i 0) (wm rx rkc rkcol rvcol i 0) (rw i 0))
      (wCodes (nk i) (em rx rkc rkcol i 1) (wm rx rkc rkcol rvcol i 1) (rw i 1)))
    (wFactor (em rx rkc rkcol i g) (es rx rkc rkcol i g) (wm rx rkc rkcol rvcol i g) (vunnorm rv))

end stores

/-! ### The stores, last first -/

section pieces

variable (kv : BitVec 32) (rx : Fin 7 → Fin 2 → FVec F S1x128x256 .bf16) (rk rv : Fin 7 → FVec F S1x128x256 .bf16)
  (rkc : Fin 7 → FVec F S1x128x256 .fp8e4m3) (rkcol rvcol : Fin 7 → FVec F S128x128 .f32)
  (rvt : (i : Fin 7) → FVec F ⟨2, ![256, nk i]⟩ .fp8e4m3) (rw : (i : Fin 7) → Fin 2 → FVec F ⟨2, ![nk i, 128]⟩ .f32)

/-- The key or value codes. -/
def pKc (r : Fin 7 → FVec F S1x128x256 .bf16) : List (View.Piece (Elt F) S1x896x256 .fp8e4m3) :=
  ([6, 5, 4, 3, 2, 1, 0] : List (Fin 7)).map fun i => ⟨rK i, unmat (codes8 (mat (r i)))⟩

/-- A scale spread over the lanes. -/
def pCol (r : Fin 7 → FVec F S1x128x256 .bf16) : List (View.Piece (Elt F) S896x128 .f32) :=
  ([6, 5, 4, 3, 2, 1, 0] : List (Fin 7)).map fun i => ⟨rCol i, shapeCast S128x128 (rowScale (mat (r i))) shapeCasts_S128x128_S128x128⟩

/-- The transposed values. -/
def pVt : List (View.Piece (Elt F) S256x896 .fp8e4m3) :=
  ([6, 5, 4, 3, 2, 1, 0] : List (Fin 7)).map fun i => ⟨rVt i, vtTile (mat (rv i))⟩

/-- The query codes. -/
def pQc : List (View.Piece (Elt F) S1x896x512 .fp8e4m3) :=
  ([0, 1, 2, 3, 4, 5, 6] : List (Fin 7)).flatMap fun i =>
    [⟨rX i 1, unmat (codes8 (mat (rx i 1)))⟩, ⟨rX i 0, unmat (codes8 (mat (rx i 0)))⟩]

/-- The result. -/
def pOut : List (View.Piece (Elt F) S1x896x512 .bf16) :=
  ([0, 1, 2, 3, 4, 5, 6] : List (Fin 7)).flatMap fun i =>
    [⟨rX i 1, outT rx rv rkc rkcol rvcol rvt rw i 1⟩, ⟨rX i 0, outT rx rv rkc rkcol rvcol rvt rw i 0⟩]

/-- The weights of query tiles `6 … i`, where `n` counts the tiles after `i`. -/
def pW : (n : ℕ) → n < 7 → List (View.Piece (Elt F) S896x256 .f32)
  | 0, _ => wTile 6 ++ []
  | n + 1, h => wTile ⟨5 - n, by omega⟩ ++ pW n (Nat.lt_of_succ_lt h)
where
  /-- The weights of one query tile, key tiles `i … 0`. -/
  wTile (i : Fin 7) : List (View.Piece (Elt F) S896x256 .f32) := down i i.val i.isLt
  /-- The weights of one query tile, key tiles `n … 0`. -/
  down (i : Fin 7) : (n : ℕ) → n < 7 → List (View.Piece (Elt F) S896x256 .f32)
  | 0, h => [one i 1 ⟨0, h⟩, one i 0 ⟨0, h⟩]
  | n + 1, h => one i 1 ⟨n + 1, h⟩ :: one i 0 ⟨n + 1, h⟩ :: down i n (Nat.lt_of_succ_lt h)
  /-- The weights of one query tile, head and key tile. -/
  one (i : Fin 7) (g : Fin 2) (j : Fin 7) : View.Piece (Elt F) S896x256 .f32 :=
    ⟨rW j g, shapeCast S128x128 (wT rx rkc rkcol rvcol i g j) shapeCasts_S128x128_S128x128⟩

end pieces

/-- Stores each of which changes what it reads at its own rectangle: over the list `l` in order, on top of the stores `L`. -/
def rmw {ι : Type} {κ : Kind} {sp : Space} {s : Shape} {e : EltTy} (v : View sig κ sp s e) (r : ι → Rect s)
    (f : (i : ι) → ((r i).shape.Idx → Elt F e) → ((r i).shape.Idx → Elt F e)) : List ι → List (View.Piece (Elt F) s e) → List (View.Piece (Elt F) s e)
  | [], L => L
  | i :: l, L => rmw v r f l (⟨r i, f i (v.readCov L (r i).toLoadRect)⟩ :: L)

end Cert.KernelIdeal.Vocab
-- ==== Proof.Consts.lean ====
/- The constants the programs spell, as the extended reals their patterns denote. -/
module

public import proofs.«01_k».proof.KernelIdeal
public import Idealize.ShloMosaic.PureOps.Ideal
public import Idealize.ShloMosaic.PureOps.IdealRules

@[expose] public section

noncomputable section

namespace Cert.Consts

open Idealize.ShloMosaic

/-- The word 0x3F924925 denotes 512 * (9586981 / 2 ^ 32). -/
theorem c512 : Ideal.ofBits .f32 0x3F924925#32 = ((512 * (9586981 / 2 ^ 32) : ℝ) : EReal) := by
  simp [Ideal.ofBits, Ideal.ieee, -EReal.coe_mul, -EReal.coe_neg, -EReal.coe_pow] <;> norm_num
/-- The word 0x3B124925 denotes 9586981 / 2 ^ 32. -/
theorem c448 : Ideal.ofBits .f32 0x3B124925#32 = ((9586981 / 2 ^ 32 : ℝ) : EReal) := by
  simp [Ideal.ofBits, Ideal.ieee, -EReal.coe_mul, -EReal.coe_neg, -EReal.coe_pow] <;> norm_num
/-- The word 0x3F000000 denotes 1 / 2. -/
theorem half : Ideal.ofBits .f32 0x3F000000#32 = ((1 / 2 : ℝ) : EReal) := by
  simp [Ideal.ofBits, Ideal.ieee, -EReal.coe_mul, -EReal.coe_neg, -EReal.coe_pow] <;> norm_num
/-- The word 0x40000000 denotes 2. -/
theorem two : Ideal.ofBits .f32 0x40000000#32 = ((2 : ℝ) : EReal) := by
  simp [Ideal.ofBits, Ideal.ieee, -EReal.coe_mul, -EReal.coe_neg, -EReal.coe_pow] <;> norm_num
/-- The word 0x43800000 denotes 256. -/
theorem f256 : Ideal.ofBits .f32 0x43800000#32 = ((256 : ℝ) : EReal) := by
  simp [Ideal.ofBits, Ideal.ieee, -EReal.coe_mul, -EReal.coe_neg, -EReal.coe_pow] <;> norm_num
/-- The word 0x14800000 denotes 1 / 2 ^ 86. -/
theorem tiny : Ideal.ofBits .f32 0x14800000#32 = ((1 / 2 ^ 86 : ℝ) : EReal) := by
  simp [Ideal.ofBits, Ideal.ieee, -EReal.coe_mul, -EReal.coe_neg, -EReal.coe_pow] <;> norm_num
/-- The word 0x3F800000 denotes 1. -/
theorem one : Ideal.ofBits .f32 0x3F800000#32 = ((1 : ℝ) : EReal) := by
  simp [Ideal.ofBits, Ideal.ieee, -EReal.coe_mul, -EReal.coe_neg, -EReal.coe_pow] <;> norm_num
/-- The word 0x53800000 denotes 2 ^ 40. -/
theorem p40 : Ideal.ofBits .f32 0x53800000#32 = ((2 ^ 40 : ℝ) : EReal) := by
  simp [Ideal.ofBits, Ideal.ieee, -EReal.coe_mul, -EReal.coe_neg, -EReal.coe_pow] <;> norm_num
/-- The word 0x2B800000 denotes 1 / 2 ^ 40. -/
theorem m40 : Ideal.ofBits .f32 0x2B800000#32 = ((1 / 2 ^ 40 : ℝ) : EReal) := by
  simp [Ideal.ofBits, Ideal.ieee, -EReal.coe_mul, -EReal.coe_neg, -EReal.coe_pow] <;> norm_num
/-- The word 0xC3E00000 denotes -448. -/
theorem lo : Ideal.ofBits .f32 0xC3E00000#32 = ((-448 : ℝ) : EReal) := by
  simp [Ideal.ofBits, Ideal.ieee, -EReal.coe_mul, -EReal.coe_neg, -EReal.coe_pow] <;> norm_num
/-- The word 0x43E00000 denotes 448. -/
theorem hi : Ideal.ofBits .f32 0x43E00000#32 = ((448 : ℝ) : EReal) := by
  simp [Ideal.ofBits, Ideal.ieee, -EReal.coe_mul, -EReal.coe_neg, -EReal.coe_pow] <;> norm_num
/-- The word 0x00000000 denotes 0. -/
theorem zero : Ideal.ofBits .f32 0x00000000#32 = ((0 : ℝ) : EReal) := by
  simp [Ideal.ofBits, Ideal.ieee, -EReal.coe_mul, -EReal.coe_neg, -EReal.coe_pow] <;> norm_num
/-- The word 0x42480000 denotes 50. -/
theorem fifty : Ideal.ofBits .f32 0x42480000#32 = ((50 : ℝ) : EReal) := by
  simp [Ideal.ofBits, Ideal.ieee, -EReal.coe_mul, -EReal.coe_neg, -EReal.coe_pow] <;> norm_num
/-- The word 0x3D800000 denotes 1 / 16. -/
theorem sixteenth : Ideal.ofBits .f32 0x3D800000#32 = ((1 / 16 : ℝ) : EReal) := by
  simp [Ideal.ofBits, Ideal.ieee, -EReal.coe_mul, -EReal.coe_neg, -EReal.coe_pow] <;> norm_num
/-- The word 0x05000000 denotes 1 / 2 ^ 117. -/
theorem thr : Ideal.ofBits .f32 0x05000000#32 = ((1 / 2 ^ 117 : ℝ) : EReal) := by
  simp [Ideal.ofBits, Ideal.ieee, -EReal.coe_mul, -EReal.coe_neg, -EReal.coe_pow] <;> norm_num
/-- The word 0x0500 denotes 1 / 2 ^ 117. -/
theorem thr16 : Ideal.ofBits .bf16 0x0500#16 = ((1 / 2 ^ 117 : ℝ) : EReal) := by
  simp [Ideal.ofBits, Ideal.ieee, -EReal.coe_mul, -EReal.coe_neg, -EReal.coe_pow] <;> norm_num
/-- The word 0x4380 denotes 256. -/
theorem b256 : Ideal.ofBits .bf16 0x4380#16 = ((256 : ℝ) : EReal) := by
  simp [Ideal.ofBits, Ideal.ieee, -EReal.coe_mul, -EReal.coe_neg, -EReal.coe_pow] <;> norm_num
/-- The word 0x3B80 denotes 1 / 2 ^ 8. -/
theorem b8 : Ideal.ofBits .bf16 0x3B80#16 = ((1 / 2 ^ 8 : ℝ) : EReal) := by
  simp [Ideal.ofBits, Ideal.ieee, -EReal.coe_mul, -EReal.coe_neg, -EReal.coe_pow] <;> norm_num
/-- The word 0xC3E0 denotes -448. -/
theorem lo16 : Ideal.ofBits .bf16 0xC3E0#16 = ((-448 : ℝ) : EReal) := by
  simp [Ideal.ofBits, Ideal.ieee, -EReal.coe_mul, -EReal.coe_neg, -EReal.coe_pow] <;> norm_num
/-- The word 0x43E0 denotes 448. -/
theorem hi16 : Ideal.ofBits .bf16 0x43E0#16 = ((448 : ℝ) : EReal) := by
  simp [Ideal.ofBits, Ideal.ieee, -EReal.coe_mul, -EReal.coe_neg, -EReal.coe_pow] <;> norm_num
/-- The word 0xFF800000 denotes ⊥. -/
theorem ninf : Ideal.ofBits .f32 0xFF800000#32 = (⊥ : EReal) := by
  simp [Ideal.ofBits, Ideal.ieee]
/-- The word 0xFF80 denotes ⊥. -/
theorem ninf16 : Ideal.ofBits .bf16 0xFF80#16 = (⊥ : EReal) := by
  simp [Ideal.ofBits, Ideal.ieee]
/-- The word 0x7F800000 denotes ⊤. -/
theorem pinf : Ideal.ofBits .f32 0x7F800000#32 = (⊤ : EReal) := by
  simp [Ideal.ofBits, Ideal.ieee]

/-- The first named constant denotes 1 / ln 2. -/
theorem inv_ln2 : Named.named (F := Ideal) Cert.KernelIdeal.κ "inv_ln2" (φ := .f32) 0x3FB8AA3B#32 = (((Real.log 2)⁻¹ : ℝ) : EReal) :=
  IdealRules.named_const.ideal_named_scalar _ _ _ _ rfl
/-- The second named constant denotes 1 / 800. -/
theorem inv_800 : Named.named (F := Ideal) Cert.KernelIdeal.κ "inv_800" (φ := .f32) 0x3AA3D70A#32 = ((1 / 800 : ℝ) : EReal) :=
  IdealRules.named_const.ideal_named_scalar _ _ _ _ rfl
/-- The third named constant denotes 50 / ln 2. -/
theorem cap_log2e : Named.named (F := Ideal) Cert.KernelIdeal.κ "cap_log2e" (φ := .f32) 0x429044FE#32 = ((50 * (Real.log 2)⁻¹ : ℝ) : EReal) :=
  IdealRules.named_const.ideal_named_scalar _ _ _ _ rfl

end Cert.Consts
-- ==== Proof.Scal.lean ====
/- The numbers behind the programs: the largest power of two at most a number, the scale of a row, and the two ways of spelling
   one row of the attention's result. -/
module

public import proofs.«01_k».proof.Proof.Consts

@[expose] public section

noncomputable section

namespace Cert.Scal

open Idealize.ShloMosaic

/-! ### The largest power of two at most a number -/

/-- The first guess. -/
def guessS (y : EReal) : EReal :=
  Ideal.exp2 (Ideal.liftRound Int.floor (Ideal.log y * (((Real.log 2)⁻¹ : ℝ) : EReal) - ((1 / 2 : ℝ) : EReal)))

/-- The largest power of two at most a number. -/
def pow2S (y : EReal) : EReal := if guessS y * ((2 : ℝ) : EReal) ≤ y then guessS y * ((2 : ℝ) : EReal) else guessS y

theorem log2_pos : 0 < Real.log 2 := Real.log_pos (by norm_num)

/-- A power of two is at most a positive number exactly when its exponent is at most the number's binary logarithm. -/
theorem zpow_le_iff (n : ℤ) (y : ℝ) (hy : 0 < y) : (2 : ℝ) ^ n ≤ y ↔ (n : ℝ) ≤ Real.log y * (Real.log 2)⁻¹ := by
  rw [← div_eq_mul_inv, le_div_iff₀ log2_pos, ← Real.log_zpow, Real.log_le_log_iff (by positivity) hy]

theorem guessS_coe (y : ℝ) (hy : 0 < y) :
    guessS y = (((2 : ℝ) ^ (⌊Real.log y * (Real.log 2)⁻¹ - 1 / 2⌋) : ℝ) : EReal) := by
  have h1 : Ideal.log (y : EReal) = ((Real.log y : ℝ) : EReal) := if_neg (not_le.mpr hy)
  rw [guessS, h1, ← EReal.coe_mul, ← EReal.coe_sub]
  show ((Real.rpow 2 (⌊_⌋ : ℝ) : ℝ) : EReal) = _
  exact congrArg _ (Real.rpow_intCast 2 _)

/-- The largest power of two at most a positive number is two to the floor of its binary logarithm. -/
theorem pow2S_coe (y : ℝ) (hy : 0 < y) : pow2S y = (((2 : ℝ) ^ (⌊Real.log y * (Real.log 2)⁻¹⌋) : ℝ) : EReal) := by
  set t := Real.log y * (Real.log 2)⁻¹ with ht
  have h2 : (2 : ℝ) ^ ⌊t - 1 / 2⌋ * 2 = (2 : ℝ) ^ (⌊t - 1 / 2⌋ + 1) := (zpow_add_one₀ (by norm_num) _).symm
  have hlo : ⌊t⌋ - 1 ≤ ⌊t - 1 / 2⌋ := by
    rw [Int.le_floor]; push_cast; linarith [Int.floor_le t]
  have hhi : ⌊t - 1 / 2⌋ ≤ ⌊t⌋ := Int.floor_le_floor (by linarith)
  rw [pow2S, guessS_coe y hy, ← ht, ← EReal.coe_mul, h2]
  have hc : (((2 : ℝ) ^ (⌊t - 1 / 2⌋ + 1) : ℝ) : EReal) ≤ (y : EReal) ↔ ⌊t - 1 / 2⌋ + 1 ≤ ⌊t⌋ := by
    rw [EReal.coe_le_coe_iff, zpow_le_iff _ _ hy, ← ht, ← Int.le_floor]
  split_ifs with h <;> rw [hc] at h
  · have : ⌊t - 1 / 2⌋ + 1 = ⌊t⌋ := by omega
    rw [this]
  · have : ⌊t - 1 / 2⌋ = ⌊t⌋ := by omega
    rw [this]

theorem pow2S_zero : pow2S 0 = 0 := by
  have h1 : Ideal.log (0 : EReal) = ⊥ := if_pos (le_refl (0 : ℝ))
  have hg : guessS 0 = 0 := by
    rw [guessS, h1, EReal.bot_mul_coe_of_pos (by have := log2_pos; positivity)]
    have : (⊥ : EReal) - ((1 / 2 : ℝ) : EReal) = ⊥ := by simp [sub_eq_add_neg]
    rw [this]; rfl
  simp [pow2S, hg]

theorem pow2S_top : pow2S ⊤ = ⊤ := by
  have hg : guessS ⊤ = ⊤ := by
    have h1 : Ideal.log ⊤ = ⊤ := rfl
    rw [guessS, h1, EReal.top_mul_coe_of_pos (by have := log2_pos; positivity)]
    have : (⊤ : EReal) - ((1 / 2 : ℝ) : EReal) = ⊤ := by simp [sub_eq_add_neg]
    rw [this]; rfl
  rw [pow2S, hg, EReal.top_mul_coe_of_pos (by norm_num)]; simp

/-! ### A row's scale -/

/-- The kernel's power of two of a row, from the row's largest magnitude. -/
def rowBS (a : EReal) : EReal :=
  if pow2S (a * ((512 * (9586981 / 2 ^ 32) : ℝ) : EReal)) < ((1 / 2 ^ 117 : ℝ) : EReal) then ((256 : ℝ) : EReal)
  else pow2S (a * ((512 * (9586981 / 2 ^ 32) : ℝ) : EReal))
/-- The kernel's scale of a row. -/
def scaleS (a : EReal) : EReal := rowBS a * ((1 / 2 ^ 8 : ℝ) : EReal)
/-- The inverse of a row's scale in the kernel. -/
def invS (a : EReal) : EReal := Ideal.div ((256 : ℝ) : EReal) (rowBS a)

/-- The exponent of a row's scale in the reference. -/
def expoR (a : EReal) : EReal :=
  if a = 0 then 0 else Ideal.liftRound Int.floor (Ideal.div (Ideal.log (a * ((9586981 / 2 ^ 32 : ℝ) : EReal))) (Ideal.log ((2 : ℝ) : EReal)))
    + ((1 : ℝ) : EReal)
/-- The reference's scale of a row. -/
def scaleR (a : EReal) : EReal := Ideal.pow ((2 : ℝ) : EReal) (expoR a)
/-- The inverse of a row's scale in the reference. -/
def invR (a : EReal) : EReal := Ideal.pow ((2 : ℝ) : EReal) (-expoR a)

/-- A row's largest magnitude under the precondition: none, or not tiny. -/
def RowOk (a : EReal) : Prop := a = 0 ∨ ((1 / 2 ^ 117 : ℝ) : EReal) ≤ a

/-- The exponent of a positive real row. -/
def expoZ (a : ℝ) : ℤ := ⌊Real.log (a * (9586981 / 2 ^ 32)) * (Real.log 2)⁻¹⌋ + 1

theorem log_two : Ideal.log ((2 : ℝ) : EReal) = ((Real.log 2 : ℝ) : EReal) := if_neg (by norm_num)

theorem expoR_coe (a : ℝ) (ha : 0 < a) : expoR a = ((expoZ a : ℝ) : EReal) := by
  have h0 : (a : EReal) ≠ 0 := by exact_mod_cast ha.ne'
  have hp : 0 < a * (9586981 / 2 ^ 32) := by positivity
  have h1 : Ideal.log ((a * (9586981 / 2 ^ 32) : ℝ) : EReal) = ((Real.log (a * (9586981 / 2 ^ 32)) : ℝ) : EReal) := if_neg (not_le.mpr hp)
  have h2 : ((Real.log 2 : ℝ) : EReal) ≠ 0 := by exact_mod_cast log2_pos.ne'
  rw [expoR, if_neg h0, ← EReal.coe_mul, h1, log_two, Ideal.div, if_neg h2, ← EReal.coe_inv, ← EReal.coe_mul]
  show ((⌊_⌋ : ℝ) : EReal) + _ = _
  rw [← EReal.coe_add, expoZ]; push_cast; rfl

theorem pow_two_int (n : ℤ) : Ideal.pow ((2 : ℝ) : EReal) ((n : ℝ) : EReal) = (((2 : ℝ) ^ n : ℝ) : EReal) := by
  show ((Real.rpow 2 (n : ℝ) : ℝ) : EReal) = _
  exact congrArg _ (Real.rpow_intCast 2 n)

theorem scaleR_coe (a : ℝ) (ha : 0 < a) : scaleR a = (((2 : ℝ) ^ expoZ a : ℝ) : EReal) := by
  rw [scaleR, expoR_coe a ha, pow_two_int]

theorem invR_coe (a : ℝ) (ha : 0 < a) : invR a = (((2 : ℝ) ^ (-expoZ a) : ℝ) : EReal) := by
  rw [invR, expoR_coe a ha, ← EReal.coe_neg, ← Int.cast_neg, pow_two_int]

theorem scaleR_zero : scaleR 0 = ((1 : ℝ) : EReal) := by
  have := pow_two_int 0
  rw [scaleR, expoR, if_pos rfl]; simpa using this

theorem invR_zero : invR 0 = ((1 : ℝ) : EReal) := by
  have := pow_two_int 0
  rw [invR, expoR, if_pos rfl]; simpa using this

theorem expoR_top : expoR ⊤ = ⊤ := by
  have h2 : ((Real.log 2 : ℝ) : EReal) ≠ 0 := by exact_mod_cast log2_pos.ne'
  rw [expoR, if_neg (by simp), EReal.top_mul_coe_of_pos (by norm_num)]
  have h1 : Ideal.log ⊤ = ⊤ := rfl
  rw [h1, log_two, Ideal.div, if_neg h2, ← EReal.coe_inv, EReal.top_mul_coe_of_pos (by have := log2_pos; positivity)]
  rfl

theorem two_not_neg : ¬ (2 : ℝ) < 0 := by norm_num

theorem scaleR_top : scaleR ⊤ = ⊤ := by
  rw [scaleR, expoR_top]
  show (if (2 : ℝ) < 0 then (⊥ : EReal) else if 1 < (2 : ℝ) then ⊤ else _) = _
  rw [if_neg two_not_neg, if_pos (by norm_num)]

theorem invR_top : invR ⊤ = 0 := by
  rw [invR, expoR_top, EReal.neg_top]
  show (if (2 : ℝ) < 0 then (⊥ : EReal) else if 1 < (2 : ℝ) then 0 else _) = _
  rw [if_neg two_not_neg, if_pos (by norm_num)]

theorem rowBS_zero : rowBS 0 = ((256 : ℝ) : EReal) := by
  rw [rowBS, zero_mul, pow2S_zero, if_pos (by exact_mod_cast (by norm_num : (0 : ℝ) < 1 / 2 ^ 117))]

theorem rowBS_top : rowBS ⊤ = ⊤ := by
  rw [rowBS, EReal.top_mul_coe_of_pos (by norm_num), pow2S_top]; simp

theorem floor_shift (a : ℝ) (ha : 0 < a) :
    ⌊Real.log (a * (512 * (9586981 / 2 ^ 32))) * (Real.log 2)⁻¹⌋ = expoZ a + 8 := by
  have h : Real.log (a * (512 * (9586981 / 2 ^ 32))) * (Real.log 2)⁻¹ = Real.log (a * (9586981 / 2 ^ 32)) * (Real.log 2)⁻¹ + (9 : ℤ) := by
    have e : a * (512 * (9586981 / 2 ^ 32)) = (a * (9586981 / 2 ^ 32)) * (2 : ℝ) ^ (9 : ℕ) := by norm_num; ring
    rw [e, Real.log_mul (by positivity) (by positivity), Real.log_pow, add_mul, mul_assoc, mul_inv_cancel₀ log2_pos.ne']
    norm_num
  rw [h, Int.floor_add_intCast, expoZ]; ring

theorem rowBS_coe (a : ℝ) (h : 1 / 2 ^ 117 ≤ a) : rowBS a = (((2 : ℝ) ^ (expoZ a + 8) : ℝ) : EReal) := by
  have ha : 0 < a := lt_of_lt_of_le (by positivity) h
  have hp : 0 < a * (512 * (9586981 / 2 ^ 32)) := by positivity
  have hle : (1 / 2 ^ 117 : ℝ) ≤ (2 : ℝ) ^ (expoZ a + 8) := by
    have e : (1 / 2 ^ 117 : ℝ) = (2 : ℝ) ^ (-117 : ℤ) := by norm_num
    rw [e]
    refine zpow_le_zpow_right₀ (by norm_num) ?_
    rw [← floor_shift a ha, Int.le_floor, ← zpow_le_iff _ _ hp, ← e]
    refine h.trans ?_
    exact le_mul_of_one_le_right ha.le (by norm_num)
  rw [rowBS, ← EReal.coe_mul, pow2S_coe _ hp, floor_shift a ha, if_neg]
  rw [not_lt, EReal.coe_le_coe_iff]; exact hle

/-- The two programs' scales agree. -/
theorem scale_eq (a : EReal) (h : RowOk a) : scaleS a = scaleR a := by
  rcases h with h | h
  · rw [h, scaleS, rowBS_zero, scaleR_zero, ← EReal.coe_mul]; norm_num
  · induction a with
    | bot => exact absurd h (by simp)
    | top => rw [scaleS, rowBS_top, scaleR_top, EReal.top_mul_coe_of_pos (by norm_num)]
    | coe a =>
      rw [EReal.coe_le_coe_iff] at h
      have ha : 0 < a := lt_of_lt_of_le (by positivity) h
      rw [scaleS, rowBS_coe a h, scaleR_coe a ha, ← EReal.coe_mul, zpow_add₀ (by norm_num)]
      refine congrArg _ ?_
      norm_num [mul_assoc]

/-- The two programs' inverse scales agree. -/
theorem inv_eq (a : EReal) (h : RowOk a) : invS a = invR a := by
  rcases h with h | h
  · rw [h, invS, rowBS_zero, invR_zero, Ideal.div, if_neg (by norm_cast), ← EReal.coe_inv, ← EReal.coe_mul]; norm_num
  · induction a with
    | bot => exact absurd h (by simp)
    | top => rw [invS, rowBS_top, invR_top, Ideal.div, if_neg (by simp)]; simp
    | coe a =>
      rw [EReal.coe_le_coe_iff] at h
      have ha : 0 < a := lt_of_lt_of_le (by positivity) h
      have h0 : (((2 : ℝ) ^ (expoZ a + 8) : ℝ) : EReal) ≠ 0 := by
        have : ((2 : ℝ) ^ (expoZ a + 8) : ℝ) ≠ 0 := by positivity
        exact_mod_cast this
      rw [invS, rowBS_coe a h, invR_coe a ha, Ideal.div, if_neg h0, ← EReal.coe_inv, ← EReal.coe_mul, zpow_add₀ (by norm_num), zpow_neg]
      refine congrArg _ ?_
      have : (2 : ℝ) ^ expoZ a ≠ 0 := by positivity
      have e8 : (2 : ℝ) ^ (8 : ℤ) = 256 := by norm_num
      rw [e8, mul_inv, mul_comm, mul_assoc, inv_mul_cancel₀ (by norm_num), mul_one]

/-- A real row has a positive real scale. -/
theorem scaleR_pos (a : EReal) (h0 : 0 ≤ a) (ht : a ≠ ⊤) : ∃ s : ℝ, 0 < s ∧ scaleR a = s ∧ invR a = ((s⁻¹ : ℝ) : EReal) := by
  induction a with
  | bot => exact absurd h0 (by simp)
  | top => exact absurd rfl ht
  | coe a =>
    rcases eq_or_lt_of_le (by exact_mod_cast h0 : (0 : ℝ) ≤ a) with h | h
    · refine ⟨1, one_pos, ?_, ?_⟩
      · rw [← h]; exact_mod_cast scaleR_zero
      · rw [← h]; simpa using invR_zero
    · exact ⟨2 ^ expoZ a, by positivity, scaleR_coe a h, by rw [invR_coe a h, zpow_neg]⟩

/-- A number divided by the scale its bound asks for needs no clamping: the power of two is above the bound over 448. -/
theorem lt_scale (a : ℝ) (ha : 0 < a) : a * (9586981 / 2 ^ 32) < (2 : ℝ) ^ expoZ a := by
  have hp : 0 < a * (9586981 / 2 ^ 32) := by positivity
  by_contra hc
  rw [not_lt, zpow_le_iff _ _ hp, expoZ] at hc
  push_cast at hc
  linarith [Int.lt_floor_add_one (Real.log (a * (9586981 / 2 ^ 32)) * (Real.log 2)⁻¹)]

end Cert.Scal
-- ==== Proof.Row.lean ====
/- One row of the attention: what the kernel computes of it and what the reference computes of it are one number. -/
module

public import proofs.«01_k».proof.Proof.Scal

@[expose] public section

noncomputable section

namespace Cert.Scal

open Idealize.ShloMosaic

/-- A number clamped to the codes' range. -/
def clipS (x : EReal) : EReal := min (max x ((-448 : ℝ) : EReal)) ((448 : ℝ) : EReal)

/-- The magnitude of a number. -/
def absS (x : EReal) : EReal := max x (-x)

/-- The kernel's power of two of a row of weights. -/
def wBS (em wm : EReal) : EReal :=
  if pow2S (wm * Ideal.div ((1 : ℝ) : EReal) em * ((9586981 / 2 ^ 32 : ℝ) : EReal)) = ((0 : ℝ) : EReal) then ((1 / 2 : ℝ) : EReal)
  else pow2S (wm * Ideal.div ((1 : ℝ) : EReal) em * ((9586981 / 2 ^ 32 : ℝ) : EReal))

/-- What the kernel multiplies the weights by. -/
def wMultS (em wm : EReal) : EReal := Ideal.div ((1 : ℝ) : EReal) em * Ideal.div ((1 / 2 : ℝ) : EReal) (wBS em wm)

/-- What the kernel multiplies the product by. -/
def wFactorS (em es wm vun : EReal) : EReal := Ideal.div (wBS em wm * ((2 : ℝ) : EReal) * em) es * vun

variable {ι : Type} [Fintype ι]

/-- The largest value scale, kept above zero. -/
def vmaxS (vS : ι → EReal) : EReal := max (Finset.univ.sup vS) ((1 / 2 ^ 86 : ℝ) : EReal)
/-- What the value scales are multiplied by. -/
def vnormS (vS : ι → EReal) : EReal := Ideal.div ((1 : ℝ) : EReal) (vmaxS vS) * ((2 ^ 40 : ℝ) : EReal)
/-- What the result is multiplied by in return. -/
def vunS (vS : ι → EReal) : EReal := vmaxS vS * ((1 / 2 ^ 40 : ℝ) : EReal)

/-- The kernel's weight of one key. -/
def kerW (E vS : ι → EReal) (k : ι) : EReal := E k * (vS k * vnormS vS)

/-- The kernel's row of the result, from the exponentials, the value scales and one column of the value codes. -/
def kerRow (E vS vc : ι → EReal) : EReal :=
  (∑ k, vc k * clipS (kerW E vS k * wMultS (Finset.univ.sup E) (Finset.univ.sup (kerW E vS)))) *
    wFactorS (Finset.univ.sup E) (∑ k, E k) (Finset.univ.sup (kerW E vS)) (vunS vS)

/-- The reference's exponential of one key. -/
def refE (S : ι → EReal) (mask : ι → Prop) [DecidablePred mask] (k : ι) : EReal :=
  if mask k then Ideal.exp (S k - Finset.univ.sup fun k => if mask k then S k else ⊥) else ((0 : ℝ) : EReal)

/-- The largest weight of the reference's row. -/
def refA (S vS : ι → EReal) (mask : ι → Prop) [DecidablePred mask] : EReal := Finset.univ.sup fun k => absS (refE S mask k * vS k)

/-- The reference's row of the result, from the capped scores, the mask, the value scales and one column of the value codes. -/
def refRow (S vS vc : ι → EReal) (mask : ι → Prop) [DecidablePred mask] : EReal :=
  Ideal.div ((∑ k, clipS (refE S mask k * vS k * invR (refA S vS mask)) * vc k) * scaleR (refA S vS mask)) (∑ k, refE S mask k)

/-- A largest of finitely many real numbers, read as extended reals. -/
theorem sup_coe [Nonempty ι] (f : ι → ℝ) :
    ∃ M : ℝ, (Finset.univ.sup fun i => (f i : EReal)) = (M : EReal) ∧ (∀ i, f i ≤ M) ∧ ∃ i, f i = M := by
  obtain ⟨i, -, hi⟩ := Finset.exists_max_image Finset.univ f Finset.univ_nonempty
  refine ⟨f i, le_antisymm (Finset.sup_le fun j hj => EReal.coe_le_coe_iff.mpr (hi j hj)) ?_, fun j => hi j (Finset.mem_univ j), i, rfl⟩
  exact Finset.le_sup (f := fun i => (f i : EReal)) (Finset.mem_univ i)

/-- A finite sum of real numbers, read as extended reals. -/
theorem sum_coe (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

theorem div_coe_coe (x y : ℝ) (hy : y ≠ 0) : Ideal.div (x : EReal) (y : EReal) = ((x * y⁻¹ : ℝ) : EReal) := by
  have : (y : EReal) ≠ 0 := by exact_mod_cast hy
  rw [Ideal.div, if_neg this, ← EReal.coe_inv, ← EReal.coe_mul]

theorem clipS_coe (x : ℝ) (h0 : 0 ≤ x) (h : x ≤ 448) : clipS x = x := by
  rw [clipS, max_eq_left (by rw [EReal.coe_le_coe_iff]; linarith), min_eq_left (by rw [EReal.coe_le_coe_iff]; exact h)]

/-- A bounded number divided by its bound's scale is inside the codes' range. -/
theorem inside (w a : ℝ) (hw : w ≤ a) (ha : 0 < a) : w * ((2 : ℝ) ^ expoZ a)⁻¹ ≤ 448 := by
  have h := lt_scale a ha
  have hp : (0 : ℝ) < 2 ^ expoZ a := by positivity
  rw [← div_eq_mul_inv, div_le_iff₀ hp]
  nlinarith

theorem wBS_coe (em wm : ℝ) (hem : 0 < em) (hwm : 0 < wm) : wBS em wm = (((2 : ℝ) ^ (expoZ (wm * em⁻¹) - 1) : ℝ) : EReal) := by
  have hp : 0 < wm * (1 * em⁻¹) * (9586981 / 2 ^ 32) := by positivity
  have e : pow2S ((wm : EReal) * Ideal.div ((1 : ℝ) : EReal) em * ((9586981 / 2 ^ 32 : ℝ) : EReal))
      = (((2 : ℝ) ^ (expoZ (wm * em⁻¹) - 1) : ℝ) : EReal) := by
    rw [div_coe_coe _ _ hem.ne', ← EReal.coe_mul, ← EReal.coe_mul, pow2S_coe _ hp, expoZ, one_mul]
    simp
  rw [wBS, e, if_neg]
  have : ((2 : ℝ) ^ (expoZ (wm * em⁻¹) - 1)) ≠ 0 := by positivity
  exact_mod_cast this

theorem wMultS_coe (em wm : ℝ) (hem : 0 < em) (hwm : 0 < wm) :
    wMultS em wm = ((em⁻¹ * ((2 : ℝ) ^ expoZ (wm * em⁻¹))⁻¹ : ℝ) : EReal) := by
  have h2 : ((2 : ℝ) ^ expoZ (wm * em⁻¹)) ≠ 0 := by positivity
  rw [wMultS, wBS_coe em wm hem hwm, div_coe_coe _ _ hem.ne', div_coe_coe _ _ (by positivity), ← EReal.coe_mul]
  refine congrArg _ ?_
  rw [zpow_sub_one₀ (by norm_num)]
  field_simp

theorem wFactorS_coe (em es wm vun : ℝ) (hem : 0 < em) (hes : 0 < es) (hwm : 0 < wm) :
    wFactorS em es wm vun = (((2 : ℝ) ^ expoZ (wm * em⁻¹) * em * es⁻¹ * vun : ℝ) : EReal) := by
  rw [wFactorS, wBS_coe em wm hem hwm, ← EReal.coe_mul, ← EReal.coe_mul, div_coe_coe _ _ hes.ne', ← EReal.coe_mul]
  refine congrArg _ ?_
  rw [zpow_sub_one₀ (by norm_num)]
  field_simp

/-- The kernel's row is the weighted mean of the values. -/
theorem kerRow_eq (E vS vc : ι → ℝ) (hE : ∀ k, 0 ≤ E k) (k0 : ι) (h0 : 0 < E k0) (hv : ∀ k, 0 < vS k) :
    kerRow (fun k => (E k : EReal)) (fun k => (vS k : EReal)) (fun k => (vc k : EReal)) =
      (((∑ k, E k * vS k * vc k) * (∑ k, E k)⁻¹ : ℝ) : EReal) := by
  haveI : Nonempty ι := ⟨k0⟩
  obtain ⟨Em, hEm, hEm1, -⟩ := sup_coe E
  have hEm0 : 0 < Em := lt_of_lt_of_le h0 (hEm1 k0)
  have hes : 0 < ∑ k, E k := Finset.sum_pos' (fun k _ => hE k) ⟨k0, Finset.mem_univ _, h0⟩
  obtain ⟨V, hV, -, -⟩ := sup_coe vS
  have hvm : ∃ Vm : ℝ, 0 < Vm ∧ vmaxS (fun k => (vS k : EReal)) = Vm := by
    refine ⟨max V (1 / 2 ^ 86), lt_max_of_lt_right (by positivity), ?_⟩
    rw [vmaxS, hV]
    exact (EReal.coe_strictMono.monotone.map_max).symm
  obtain ⟨Vm, hVm0, hVm⟩ := hvm
  have hw : kerW (fun k => (E k : EReal)) (fun k => (vS k : EReal)) = fun k => ((E k * (vS k * (1 * Vm⁻¹ * 2 ^ 40)) : ℝ) : EReal) := by
    funext k
    rw [kerW, vnormS, hVm, div_coe_coe _ _ hVm0.ne', ← EReal.coe_mul, ← EReal.coe_mul, ← EReal.coe_mul]
  obtain ⟨Wm, hWm, hWm1, -⟩ := sup_coe fun k => E k * (vS k * (1 * Vm⁻¹ * 2 ^ 40))
  have hWm0 : 0 < Wm := lt_of_lt_of_le (mul_pos h0 (mul_pos (hv k0) (by positivity))) (hWm1 k0)
  set z := expoZ (Wm * Em⁻¹) with hz
  have hz0 : (0 : ℝ) < 2 ^ z := by positivity
  have hc : ∀ k, clipS (((E k * (vS k * (1 * Vm⁻¹ * 2 ^ 40)) : ℝ) : EReal) * wMultS Em Wm) =
      ((E k * (vS k * (1 * Vm⁻¹ * 2 ^ 40)) * (Em⁻¹ * ((2 : ℝ) ^ z)⁻¹) : ℝ) : EReal) := by
    intro k
    rw [wMultS_coe Em Wm hEm0 hWm0, ← EReal.coe_mul, ← hz]
    have hk := hE k
    have hk' := hv k
    refine clipS_coe _ (by positivity) ?_
    rw [← mul_assoc]
    exact inside _ _ (mul_le_mul_of_nonneg_right (hWm1 k) (by positivity)) (by positivity)
  rw [kerRow, hw, hEm, hWm, sum_coe, vunS, hVm, ← EReal.coe_mul, wFactorS_coe Em _ Wm _ hEm0 hes hWm0, ← hz]
  simp only [hc, ← EReal.coe_mul, sum_coe]
  refine congrArg _ ?_
  rw [Finset.sum_mul, Finset.sum_mul]
  refine Finset.sum_congr rfl fun k _ => ?_
  field_simp

/-- The reference's row is the weighted mean of the values. -/
theorem refRow_eq (s vS vc : ι → ℝ) (mask : ι → Prop) [DecidablePred mask] (k0 : ι) (h0 : mask k0) (hv : ∀ k, 0 < vS k) :
    refRow (fun k => (s k : EReal)) (fun k => (vS k : EReal)) (fun k => (vc k : EReal)) mask =
      (((∑ k, (if mask k then Real.exp (s k) else 0) * vS k * vc k) * (∑ k, if mask k then Real.exp (s k) else 0)⁻¹ : ℝ) : EReal) := by
  haveI : Nonempty ι := ⟨k0⟩
  have hm : ∃ m : ℝ, (Finset.univ.sup fun k => if mask k then (s k : EReal) else ⊥) = (m : EReal) := by
    obtain ⟨k, hk⟩ := Finset.exists_max_image (Finset.univ.filter mask) s ⟨k0, by simpa using h0⟩
    have hk1 : mask k := (Finset.mem_filter.mp hk.1).2
    refine ⟨s k, le_antisymm (Finset.sup_le fun j _ => ?_) ?_⟩
    · split_ifs with hj
      · exact EReal.coe_le_coe_iff.mpr (hk.2 j (Finset.mem_filter.mpr ⟨Finset.mem_univ _, hj⟩))
      · exact bot_le
    · have := Finset.le_sup (f := fun k => if mask k then (s k : EReal) else ⊥) (Finset.mem_univ k)
      rwa [if_pos hk1] at this
  obtain ⟨m, hm⟩ := hm
  have hE : refE (fun k => (s k : EReal)) mask = fun k => (((if mask k then Real.exp (s k) else 0) * (Real.exp m)⁻¹ : ℝ) : EReal) := by
    funext k
    rw [refE, hm]
    by_cases h : mask k
    · rw [if_pos h, if_pos h, ← EReal.coe_sub]
      show ((Real.exp _ : ℝ) : EReal) = _
      rw [Real.exp_sub, div_eq_mul_inv]
    · rw [if_neg h, if_neg h, zero_mul]
  obtain ⟨E, hEdef⟩ : ∃ E : ι → ℝ, E = fun k => if mask k then Real.exp (s k) else 0 := ⟨_, rfl⟩
  have hEe : ∀ k, (if mask k then Real.exp (s k) else 0) = E k := fun k => by rw [hEdef]
  simp only [hEe] at hE ⊢
  have hEk : ∀ k, 0 ≤ E k := fun k => by rw [← hEe]; split_ifs <;> positivity
  have hE0 : 0 < E k0 := by rw [← hEe, if_pos h0]; positivity
  have hes : 0 < ∑ k, E k := Finset.sum_pos' (fun k _ => hEk k) ⟨k0, Finset.mem_univ _, hE0⟩
  have hem : 0 < Real.exp m := Real.exp_pos m
  have hw : (fun k => absS (refE (fun k => (s k : EReal)) mask k * (vS k : EReal))) = fun k => ((E k * (Real.exp m)⁻¹ * vS k : ℝ) : EReal) := by
    funext k
    have hk := hEk k
    have hk' := hv k
    have : (0 : ℝ) ≤ E k * (Real.exp m)⁻¹ * vS k := by positivity
    rw [hE, ← EReal.coe_mul, absS, ← EReal.coe_neg, max_eq_left]
    rw [EReal.coe_le_coe_iff]; linarith
  obtain ⟨A, hA, hA1, -⟩ := sup_coe fun k => E k * (Real.exp m)⁻¹ * vS k
  have hA0 : 0 < A := lt_of_lt_of_le (mul_pos (mul_pos hE0 (by positivity)) (hv k0)) (hA1 k0)
  have hrA : refA (fun k => (s k : EReal)) (fun k => (vS k : EReal)) mask = A := by rw [refA, hw, hA]
  have hc : ∀ k, clipS (((E k * (Real.exp m)⁻¹ * vS k * 2 ^ (-expoZ A) : ℝ) : EReal)) = ((E k * (Real.exp m)⁻¹ * vS k * 2 ^ (-expoZ A) : ℝ) : EReal) := by
    intro k
    have hk := hEk k
    have hk' := hv k
    refine clipS_coe _ (by positivity) ?_
    rw [zpow_neg]
    exact inside _ _ (hA1 k) hA0
  rw [refRow, hrA, hE, invR_coe A hA0, scaleR_coe A hA0]
  simp only [← EReal.coe_mul, hc, sum_coe]
  have hden : (∑ k, E k * (Real.exp m)⁻¹) ≠ 0 := by rw [← Finset.sum_mul]; positivity
  rw [div_coe_coe _ _ hden, ← Finset.sum_mul, zpow_neg]
  refine congrArg _ ?_
  have hz0 : (0 : ℝ) < 2 ^ expoZ A := by positivity
  have hs : (∑ k, E k * (Real.exp m)⁻¹ * vS k * (2 ^ expoZ A)⁻¹ * vc k) = (∑ k, E k * vS k * vc k) * ((Real.exp m)⁻¹ * (2 ^ expoZ A)⁻¹) := by
    rw [Finset.sum_mul]
    exact Finset.sum_congr rfl fun k _ => by ring
  rw [hs]
  have hs0 := hes.ne'
  field_simp

/-- The kernel's row and the reference's row are one number. -/
theorem row_eq (s vS vc : ι → ℝ) (mask : ι → Prop) [DecidablePred mask] (k0 : ι) (h0 : mask k0) (hv : ∀ k, 0 < vS k) :
    kerRow (fun k => if mask k then ((Real.exp (s k) : ℝ) : EReal) else 0) (fun k => (vS k : EReal)) (fun k => (vc k : EReal)) =
      refRow (fun k => (s k : EReal)) (fun k => (vS k : EReal)) (fun k => (vc k : EReal)) mask := by
  have h : (fun k => if mask k then ((Real.exp (s k) : ℝ) : EReal) else 0) = fun k => ((if mask k then Real.exp (s k) else 0 : ℝ) : EReal) := by
    funext k; split_ifs <;> rfl
  rw [h, kerRow_eq _ vS vc (fun k => by split_ifs <;> positivity) k0 (by rw [if_pos h0]; positivity) hv, refRow_eq s vS vc mask k0 h0 hv]

/-! ### The scores -/

/-- The capped score as a real number. -/
def capR (p : EReal) : ℝ := 50 * (Ideal.tanh p).toReal

theorem tanh_coe (p : EReal) : Ideal.tanh p = (((Ideal.tanh p).toReal : ℝ) : EReal) := by
  induction p with
  | bot => rfl
  | top => rfl
  | coe p => rfl

/-- The kernel's exponential, in base two, is the natural exponential of the capped score. -/
theorem exp2_cap (p : EReal) : Ideal.exp2 (Ideal.tanh p * ((50 * (Real.log 2)⁻¹ : ℝ) : EReal)) = ((Real.exp (capR p) : ℝ) : EReal) := by
  rw [tanh_coe p, ← EReal.coe_mul]
  show ((Real.rpow 2 ((Ideal.tanh p).toReal * (50 * (Real.log 2)⁻¹)) : ℝ) : EReal) = _
  refine congrArg _ ?_
  show (2 : ℝ) ^ ((Ideal.tanh p).toReal * (50 * (Real.log 2)⁻¹)) = _
  rw [Real.rpow_def_of_pos (by norm_num), capR]
  refine congrArg _ ?_
  have := log2_pos.ne'
  field_simp

theorem ref_cap (p : EReal) : ((50 : ℝ) : EReal) * Ideal.tanh p = ((capR p : ℝ) : EReal) := by
  rw [tanh_coe p, ← EReal.coe_mul, capR]

/-- The two spellings of the score before the cap agree. -/
theorem score_eq (S qs ks : EReal) :
    Ideal.div (S * qs * ks * ((1 / 16 : ℝ) : EReal)) ((50 : ℝ) : EReal) = S * ks * (qs * ((1 / 800 : ℝ) : EReal)) := by
  have h : ((50 : ℝ) : EReal) ≠ 0 := by exact_mod_cast (by norm_num : (50 : ℝ) ≠ 0)
  have e : ((1 / 16 : ℝ) : EReal) * ((50⁻¹ : ℝ) : EReal) = ((1 / 800 : ℝ) : EReal) := by rw [← EReal.coe_mul]; norm_num
  rw [Ideal.div, if_neg h, ← EReal.coe_inv, mul_assoc, e, mul_assoc S, mul_comm qs ks, ← mul_assoc S, mul_assoc]

end Cert.Scal
-- ==== Proof.TileVal.lean ====
/- The kernel's tile functions over the extended reals, entry by entry: quantising a tile of rows. -/
module

public import proofs.«01_k».proof.Proof.Vocab
public import proofs.«01_k».proof.Proof.Row
public import Idealize.ShloMosaic.Lib.Pointwise
public import Idealize.ShloMosaic.Lib.MatmulPlain

@[expose] public section

set_option maxRecDepth 16384

noncomputable section

namespace Cert.KernelIdeal.Vocab

open Idealize.ShloMosaic Idealize.ShloMosaic.TcCoe
open Cert.Scal

/-- The largest magnitude of a row. -/
def rowA (f : Fin 256 → EReal) : EReal := Finset.univ.sup fun d => absS (f d)

/-- The code of one entry of a row. -/
def codeS (f : Fin 256 → EReal) (d : Fin 256) : EReal := clipS (f d * invS (rowA f))

theorem guess_apply {s : Shape} (y : FVec Ideal s .f32) (p : s.Idx) : guess y p = guessS (y p) := by
  unfold guess
  simp only [pointwise]
  rw [Consts.half, Consts.inv_ln2]
  rfl

theorem pow2_apply {s : Shape} (y : FVec Ideal s .f32) (p : s.Idx) : pow2 y p = pow2S (y p) := by
  unfold pow2
  simp only [pointwise, guess_apply]
  rw [Consts.two]
  rfl

/-- Entry `l` of half `g` of a row. -/
abbrev lane (g : Fin 2) (l : Fin 128) : Fin 256 := ⟨128 * g.val + l.val, by omega⟩

theorem half_apply {φ : FTy} (g : Fin 2) (t : FVec Ideal S128x256 φ) (r l : Fin 128) : half g t (ix2 r l) = t (ix2 r (lane g l)) := by
  unfold half
  simp only [pointwise]
  refine congrArg t ?_
  funext a
  apply Fin.ext
  match a with
  | ⟨0, _⟩ => show 0 + r.val = r.val; omega
  | ⟨1, _⟩ => rfl

/-- Folding the maximum from below is the supremum. -/
theorem fold_max {n : ℕ} (f : Fin n → EReal) : Finset.fold max ⊥ f Finset.univ = Finset.univ.sup f := rfl

theorem absf_apply (x : EReal) : FloatOps.absf (F := Ideal) (φ := .bf16) x = absS x := rfl

theorem amax_apply (t : FVec Ideal S128x256 .bf16) (r l : Fin 128) : amax t (ix2 r l) = rowA fun d => t (ix2 r d) := by
  unfold amax
  simp only [pointwise]
  rw [Consts.ninf16]
  change Finset.univ.sup (fun k => max (half 0 (absf t) (ix2 r k)) (half 1 (absf t) (ix2 r k))) = _
  simp only [half_apply]
  change Finset.univ.sup (fun k => max (absS (t (ix2 r (lane 0 k)))) (absS (t (ix2 r (lane 1 k))))) = _
  refine le_antisymm (Finset.sup_le fun k _ => max_le ?_ ?_) (Finset.sup_le fun d _ => ?_)
  · exact Finset.le_sup (f := fun d => absS (t (ix2 r d))) (Finset.mem_univ _)
  · exact Finset.le_sup (f := fun d => absS (t (ix2 r d))) (Finset.mem_univ _)
  · by_cases hd : d.val < 128
    · refine le_trans ?_ (Finset.le_sup (Finset.mem_univ (⟨d.val, hd⟩ : Fin 128)))
      refine le_trans (le_of_eq ?_) (le_max_left _ _)
      refine congrArg (fun d => absS (t (ix2 r d))) (Fin.ext ?_)
      show d.val = 128 * 0 + d.val; omega
    · have h := d.isLt
      refine le_trans ?_ (Finset.le_sup (Finset.mem_univ (⟨d.val - 128, by omega⟩ : Fin 128)))
      refine le_trans (le_of_eq ?_) (le_max_right _ _)
      refine congrArg (fun d => absS (t (ix2 r d))) (Fin.ext ?_)
      show d.val = 128 * 1 + (d.val - 128); omega

theorem mat_apply {φ : FTy} (t : FVec Ideal S1x128x256 φ) (r : Fin 128) (d : Fin 256) : mat t (ix2 r d) = t (ix3 0 r d) := by
  unfold mat
  simp only [pointwise]

theorem unmat_apply {φ : FTy} (t : FVec Ideal S128x256 φ) (a : Fin 1) (r : Fin 128) (d : Fin 256) : unmat t (ix3 a r d) = t (ix2 r d) := by
  unfold unmat
  simp only [pointwise]

theorem rowB_apply (t : FVec Ideal S128x256 .bf16) (r l : Fin 128) : rowB t (ix2 r l) = rowBS (rowA fun d => t (ix2 r d)) := by
  unfold rowB
  simp only [pointwise, pow2_apply, amax_apply]
  rw [Consts.c512, Consts.thr16, Consts.b256]
  rfl

theorem rowScale_apply (t : FVec Ideal S128x256 .bf16) (r l : Fin 128) : rowScale t (ix2 r l) = scaleS (rowA fun d => t (ix2 r d)) := by
  unfold rowScale
  simp only [pointwise, rowB_apply]
  rw [Consts.b8]
  rfl

theorem rowInv_apply (t : FVec Ideal S128x256 .bf16) (r l : Fin 128) : rowInv t (ix2 r l) = invS (rowA fun d => t (ix2 r d)) := by
  unfold rowInv
  simp only [pointwise, rowB_apply]
  rw [Consts.f256]
  rfl

theorem codes_apply (t : FVec Ideal S128x256 .bf16) (r : Fin 128) (d : Fin 256) : codes t (ix2 r d) = codeS (fun d => t (ix2 r d)) d := by
  unfold codes
  simp only [pointwise, rowInv_apply, half_apply]
  rw [Consts.lo16, Consts.hi16]
  have h := d.isLt
  by_cases hd : d.val < 128
  · rw [dif_pos hd]
    have e : lane 0 ⟨d.val, hd⟩ = d := Fin.ext (by show 128 * 0 + d.val = d.val; omega)
    show clipS (t (ix2 r (lane 0 ⟨d.val, hd⟩)) * _) = _
    rw [e]; rfl
  · rw [dif_neg hd]
    have e : lane 1 ⟨d.val - 128, by omega⟩ = d := Fin.ext (by show 128 * 1 + (d.val - 128) = d.val; omega)
    show clipS (t (ix2 r (lane 1 ⟨d.val - 128, by omega⟩)) * _) = _
    rw [e]; rfl

/-- Selecting by an equality of words is a choice. -/
theorem selectEq {α : Type} (a b : BitVec 32) (x y : α) :
    Scalar.select (IntOp.cmpi CmpIPredicate.eq a b) x y = if a = b then x else y := by
  by_cases h : a = b
  · rw [if_pos h]; simp [Scalar.select, IntOp.cmpi, h]
  · have hb : (a == b) = false := by simpa using h
    rw [if_neg h]; simp [Scalar.select, IntOp.cmpi, hb]

theorem setCol4_apply (kv : BitVec 32) (s : FVec Ideal S128x128 .f32) (old : FVec Ideal S1x128x4 .f32) (a : Fin 1) (r : Fin 128) (c : Fin 4) :
    setCol4 kv s old (ix3 a r c) = if BitVec.ofNat 32 c.val = kv then s (ix2 r ⟨c.val, by omega⟩) else old (ix3 0 r c) := by
  unfold setCol4
  simp only [pointwise]
  have e0 : (ix2 (⟨![0, 0] 0 + r.val, by show 0 + r.val < 128; omega⟩ : Fin 128) (⟨![0, 0] 1 + c.val, by show 0 + c.val < 128; omega⟩ : Fin 128))
      = ix2 r (⟨c.val, by omega⟩ : Fin 128) := by
    funext a
    apply Fin.ext
    match a with
    | ⟨0, _⟩ => show 0 + r.val = r.val; omega
    | ⟨1, _⟩ => show 0 + c.val = c.val; omega
  rw [e0]
  refine (selectEq _ _ _ _).trans (if_congr ?_ rfl rfl)
  show BitVec.ofNat 32 (0 * 4 + c.val) = _ ↔ _
  rw [Nat.zero_mul, Nat.zero_add]

theorem setCol8_apply (hd : BitVec 32) (s : FVec Ideal S128x128 .f32) (old : FVec Ideal S1x128x8 .f32) (a : Fin 1) (r : Fin 128) (c : Fin 8) :
    setCol8 hd s old (ix3 a r c) = if BitVec.ofNat 32 c.val = hd then s (ix2 r ⟨c.val, by omega⟩) else old (ix3 0 r c) := by
  unfold setCol8
  simp only [pointwise]
  have e0 : (ix2 (⟨![0, 0] 0 + r.val, by show 0 + r.val < 128; omega⟩ : Fin 128) (⟨![0, 0] 1 + c.val, by show 0 + c.val < 128; omega⟩ : Fin 128))
      = ix2 r (⟨c.val, by omega⟩ : Fin 128) := by
    funext a
    apply Fin.ext
    match a with
    | ⟨0, _⟩ => show 0 + r.val = r.val; omega
    | ⟨1, _⟩ => show 0 + c.val = c.val; omega
  rw [e0]
  refine (selectEq _ _ _ _).trans (if_congr ?_ rfl rfl)
  show BitVec.ofNat 32 (0 * 8 + c.val) = _ ↔ _
  rw [Nat.zero_mul, Nat.zero_add]

theorem codes8_apply (t : FVec Ideal S128x256 .bf16) (r : Fin 128) (d : Fin 256) : codes8 t (ix2 r d) = codeS (fun d => t (ix2 r d)) d :=
  codes_apply t r d

theorem vtTile_apply (t : FVec Ideal S128x256 .bf16) (r : Fin 128) (d : Fin 256) : vtTile t (ix2 d r) = codeS (fun d => t (ix2 r d)) d := by
  unfold vtTile
  simp only [pointwise, codes_apply]

end Cert.KernelIdeal.Vocab
-- ==== Proof.ExpVal.lean ====
/- The kernel's exponentials over the extended reals, entry by entry. -/
module

public import proofs.«01_k».proof.Proof.TileVal

@[expose] public section

set_option maxRecDepth 16384

noncomputable section

namespace Cert.KernelIdeal.Vocab

open Idealize.ShloMosaic Idealize.ShloMosaic.TcCoe
open Cert.Scal

/-- Row `r` of tile `i`. -/
abbrev row (i : Fin 7) (r : Fin 128) : Fin 896 := ⟨128 * i.val + r.val, by omega⟩

/-! ### One program's rows, as functions -/

/-- The scale of one row. -/
def rowSc (T : Fin 896 → Fin 256 → EReal) (k : Fin 896) : EReal := scaleS (rowA (T k))
/-- The codes of one row. -/
def rowCo (T : Fin 896 → Fin 256 → EReal) (k : Fin 896) (d : Fin 256) : EReal := codeS (T k) d

/-- The score of one key against one query, a fiftieth of it. -/
def scoreS (X K : Fin 896 → Fin 256 → EReal) (q k : Fin 896) : EReal :=
  (∑ d, rowCo K k d * rowCo X q d) * rowSc K k * (rowSc X q * ((1 / 800 : ℝ) : EReal))

/-- The exponential of one key against one query, none for a later key. -/
def expS (X K : Fin 896 → Fin 256 → EReal) (q k : Fin 896) : EReal :=
  if k.val ≤ q.val then Ideal.exp2 (Ideal.tanh (scoreS X K q k) * ((50 * (Real.log 2)⁻¹ : ℝ) : EReal)) else 0

/-- One entry of the result. -/
def outS (X K V : Fin 896 → Fin 256 → EReal) (q : Fin 896) (d : Fin 256) : EReal :=
  kerRow (expS X K q) (rowSc V) fun k => rowCo V k d

theorem qCat_apply (c0 c1 : FVec Ideal S128x256 .fp8e4m3) (g : Fin 2) (b : Fin 128) (d : Fin 256) :
    qCat c0 c1 (ix2 (lane g b) d) = (match g with | 0 => c0 | 1 => c1) (ix2 b d) := by
  unfold qCat
  simp only [pointwise]
  match g with
  | 0 =>
    have h : (lane 0 b).val < 128 := by show 128 * 0 + b.val < 128; omega
    rw [dif_pos h]
    refine congrArg c0 ?_
    funext a
    apply Fin.ext
    match a with
    | ⟨0, _⟩ => show 128 * 0 + b.val = b.val; omega
    | ⟨1, _⟩ => rfl
  | 1 =>
    have h : ¬ (lane 1 b).val < 128 := by show ¬ 128 * 1 + b.val < 128; omega
    rw [dif_neg h]
    refine congrArg c1 ?_
    funext a
    apply Fin.ext
    match a with
    | ⟨0, _⟩ => show 128 * 1 + b.val - 128 = b.val; omega
    | ⟨1, _⟩ => rfl

/-- The number of a head's lane. -/
abbrev hl (g : Fin 2) : Fin 128 := ⟨g.val, by omega⟩

theorem qRows_apply (s0 s1 : FVec Ideal S128x128 .f32) (g : Fin 2) (b : Fin 128) :
    qRows s0 s1 (ix2 (hl g) b) = (match g with | 0 => s0 | 1 => s1) (ix2 b (hl g)) * ((1 / 800 : ℝ) : EReal) := by
  unfold qRows
  simp only [pointwise]
  rw [Consts.inv_800]
  refine congrArg (· * _) ?_
  refine (selectEq _ _ _ _).trans ?_
  match g with
  | 0 =>
    refine if_neg ?_
    show ¬ BitVec.ofNat 32 (0 * 128 + 0) = 1#32
    decide
  | 1 =>
    refine if_pos ?_
    show BitVec.ofNat 32 (0 * 128 + 1) = 1#32
    decide

theorem qRow_apply (g : Fin 2) (r : FVec Ideal S128x128 .f32) (b : Fin 128) : qRow g r (ix2 0 b) = r (ix2 (hl g) b) := by
  unfold qRow
  simp only [pointwise]
  refine congrArg r ?_
  funext a
  apply Fin.ext
  match a with
  | ⟨0, _⟩ => rfl
  | ⟨1, _⟩ => show 0 + b.val = b.val; omega

theorem capped_apply (g : Fin 2) (kc : FVec Ideal S1x128x256 .fp8e4m3) (kcol : FVec Ideal S128x128 .f32) (qc : FVec Ideal S256x256 .fp8e4m3)
    (qr : FVec Ideal S128x128 .f32) (a b : Fin 128) :
    capped g kc kcol qc qr (ix2 a b) =
      Ideal.tanh ((∑ d, kc (ix3 0 a d) * qc (ix2 (lane g b) d)) * kcol (ix2 a b) * qr (ix2 (hl g) b)) * ((50 * (Real.log 2)⁻¹ : ℝ) : EReal) := by
  unfold capped
  simp only [pointwise, half_apply]
  rw [Consts.cap_log2e]
  change Ideal.tanh ((0 + ∑ d, mat kc (ix2 a d) * qc (ix2 (lane g b) d)) * kcol (ix2 a b) * qRow g qr (ix2 0 b)) * _ = _
  rw [zero_add, qRow_apply]
  simp only [mat_apply]

/-- Comparing two lane numbers as words is comparing them as numbers. -/
theorem lane_le : ∀ a b : Fin 128, IntOp.cmpi CmpIPredicate.sle (BitVec.ofNat 32 (0 * 128 + a.val)) (BitVec.ofNat 32 (0 * 128 + b.val)) = 1#1 ↔ a.val ≤ b.val := by
  decide +kernel

theorem mask_apply (a b : Fin 128) {α : Type} (x y : α) : Scalar.select (diagMask (ix2 a b)) x y = if a.val ≤ b.val then x else y := by
  unfold diagMask
  simp only [pointwise]
  exact if_congr (lane_le a b) rfl rfl

theorem tile_apply (diag : Bool) (g : Fin 2) (kc : FVec Ideal S1x128x256 .fp8e4m3) (kcol : FVec Ideal S128x128 .f32) (qc : FVec Ideal S256x256 .fp8e4m3)
    (qr : FVec Ideal S128x128 .f32) (a b : Fin 128) :
    expTile diag g kc kcol qc qr (ix2 a b) =
      if diag = true → a.val ≤ b.val then Ideal.exp2 (capped g kc kcol qc qr (ix2 a b)) else 0 := by
  match diag with
  | true =>
    show Ideal.exp2 (Scalar.select (diagMask (ix2 a b)) (capped g kc kcol qc qr (ix2 a b)) (Ideal.ofBits .f32 0xFF800000#32)) = _
    rw [mask_apply, Consts.ninf]
    by_cases h : a.val ≤ b.val
    · rw [if_pos h, if_pos fun _ => h]
    · rw [if_neg h, if_neg fun hh => h (hh rfl)]; rfl
  | false => exact (if_pos (fun h => absurd h Bool.false_ne_true)).symm

section env

variable (X : Fin 2 → Fin 896 → Fin 256 → EReal) (K V : Fin 896 → Fin 256 → EReal)
variable (rx : Fin 7 → Fin 2 → FVec Ideal S1x128x256 .bf16) (rv : Fin 7 → FVec Ideal S1x128x256 .bf16)
  (rkc : Fin 7 → FVec Ideal S1x128x256 .fp8e4m3) (rkcol rvcol : Fin 7 → FVec Ideal S128x128 .f32)

/-- What the loads read, in terms of one program's rows. -/
structure Reads : Prop where
  x : ∀ i g r d, rx i g (ix3 0 r d) = X g (row i r) d
  v : ∀ i r d, rv i (ix3 0 r d) = V (row i r) d
  kc : ∀ j r d, rkc j (ix3 0 r d) = rowCo K (row j r) d
  kcol : ∀ j r l, rkcol j (ix2 r l) = rowSc K (row j r)
  vcol : ∀ j r l, rvcol j (ix2 r l) = rowSc V (row j r) * vnormS (rowSc V)

variable {X K V rx rv rkc rkcol rvcol}

theorem expT_apply (H : Reads X K V rx rv rkc rkcol rvcol) (i : Fin 7) (g : Fin 2) (j : Fin 7) (hj : j.val ≤ i.val) (a b : Fin 128) :
    expT rx rkc rkcol i g j (ix2 a b) = expS (X g) K (row i b) (row j a) := by
  have hc : capped g (rkc j) (rkcol j) (qCat (codes8 (mat (rx i 0))) (codes8 (mat (rx i 1)))) (qRows (rowScale (mat (rx i 0))) (rowScale (mat (rx i 1)))) (ix2 a b)
      = Ideal.tanh (scoreS (X g) K (row i b) (row j a)) * ((50 * (Real.log 2)⁻¹ : ℝ) : EReal) := by
    have hx : ∀ g d, mat (rx i g) (ix2 b d) = X g (row i b) d := fun g d => by rw [mat_apply, H.x]
    have h1 : ∀ d, (match g with | 0 => codes8 (mat (rx i 0)) | 1 => codes8 (mat (rx i 1))) (ix2 b d) = rowCo (X g) (row i b) d := by
      intro d
      match g with
      | 0 => exact (codes8_apply _ b d).trans (congrArg (codeS · d) (funext fun d => hx 0 d))
      | 1 => exact (codes8_apply _ b d).trans (congrArg (codeS · d) (funext fun d => hx 1 d))
    have h2 : (match g with | 0 => rowScale (mat (rx i 0)) | 1 => rowScale (mat (rx i 1))) (ix2 b (hl g)) = rowSc (X g) (row i b) := by
      match g with
      | 0 => exact (rowScale_apply _ b _).trans (congrArg (fun f => scaleS (rowA f)) (funext fun d => hx 0 d))
      | 1 => exact (rowScale_apply _ b _).trans (congrArg (fun f => scaleS (rowA f)) (funext fun d => hx 1 d))
    rw [capped_apply, qRows_apply, h2, H.kcol]
    simp only [qCat_apply, h1, H.kc]
    rfl
  rw [expT, tile_apply, hc, expS]
  refine if_congr ?_ rfl rfl
  show _ ↔ 128 * j.val + a.val ≤ 128 * i.val + b.val
  have ha := a.isLt
  have hb := b.isLt
  rcases Nat.lt_or_eq_of_le hj with h | h
  · have : j ≠ i := fun e => by rw [e] at h; exact absurd h (Nat.lt_irrefl _)
    simp only [this, decide_false, Bool.false_eq_true, false_implies, true_iff]
    omega
  · have : j = i := Fin.ext h
    simp only [this, decide_true, true_implies]
    omega

theorem wT_apply (H : Reads X K V rx rv rkc rkcol rvcol) (i : Fin 7) (g : Fin 2) (j : Fin 7) (hj : j.val ≤ i.val) (a b : Fin 128) :
    wT rx rkc rkcol rvcol i g j (ix2 a b) = kerW (expS (X g) K (row i b)) (rowSc V) (row j a) := by
  show expT rx rkc rkcol i g j (ix2 a b) * rvcol j (ix2 a b) = _
  rw [expT_apply H i g j hj, H.vcol]
  rfl

end env

end Cert.KernelIdeal.Vocab
-- ==== Proof.RedVal.lean ====
/- The kernel's reductions over all keys a query tile sees, and its result, over the extended reals. -/
module

public import proofs.«01_k».proof.Proof.ExpVal

@[expose] public section

set_option maxRecDepth 16384

noncomputable section

namespace Cert.KernelIdeal.Vocab

open Idealize.ShloMosaic Idealize.ShloMosaic.TcCoe
open Cert.Scal

/-- Row `s` of group `a` of eight rows. -/
abbrev grp (a : Fin 16) (s : Fin 8) : Fin 128 := ⟨a.val * 8 + s.val, by omega⟩

theorem rmax8_apply (x : FVec Ideal S128x128 .f32) (s : Fin 8) (l : Fin 128) :
    rmax8 x (ix2 s l) = Finset.univ.sup fun a => x (ix2 (grp a s) l) := by
  unfold rmax8
  simp only [pointwise]
  rw [Consts.ninf]
  exact fold_max _

theorem rsum8_apply (x : FVec Ideal S128x128 .f32) (s : Fin 8) (l : Fin 128) :
    rsum8 x (ix2 s l) = ∑ a, x (ix2 (grp a s) l) := by
  unfold rsum8
  simp only [pointwise]

theorem rmax1_apply (x : FVec Ideal S8x128 .f32) (l : Fin 128) :
    rmax1 x (ix2 0 l) = Finset.univ.sup fun s => x (ix2 s l) := by
  unfold rmax1
  simp only [pointwise]
  rw [Consts.ninf]
  exact fold_max _

theorem rsum1_apply (x : FVec Ideal S8x128 .f32) (l : Fin 128) :
    rsum1 x (ix2 0 l) = ∑ s, x (ix2 s l) := by
  unfold rsum1
  simp only [pointwise]

theorem chain_max {s : Shape} (f : Fin 7 → FVec Ideal s .f32) (p : s.Idx) (c : EReal) :
    ∀ (n : ℕ) (h : n < 7), chain maximumf f n h p ≤ c ↔ ∀ j : Fin 7, j.val ≤ n → f j p ≤ c
  | 0, h => ⟨fun hh j hj => by rwa [show j = ⟨0, h⟩ from Fin.ext (Nat.le_zero.mp hj)], fun hh => hh ⟨0, h⟩ (le_refl 0)⟩
  | n + 1, h => by
    show max (chain maximumf f n (Nat.lt_of_succ_lt h) p) (f ⟨n + 1, h⟩ p) ≤ c ↔ _
    rw [max_le_iff, chain_max f p c n (Nat.lt_of_succ_lt h)]
    refine ⟨fun hh j hj => ?_, fun hh => ⟨fun j hj => hh j (Nat.le_succ_of_le hj), hh ⟨n + 1, h⟩ (le_refl _)⟩⟩
    rcases Nat.lt_or_eq_of_le hj with h1 | h1
    · exact hh.1 j (Nat.le_of_lt_succ h1)
    · rw [show j = ⟨n + 1, h⟩ from Fin.ext h1]; exact hh.2

theorem chain_add {s : Shape} (f : Fin 7 → FVec Ideal s .f32) (p : s.Idx) :
    ∀ (n : ℕ) (h : n < 7), chain addf f n h p = ∑ j : Fin 7, if j.val ≤ n then f j p else 0
  | 0, h => by
    show f ⟨0, h⟩ p = _
    rw [Finset.sum_eq_single (⟨0, h⟩ : Fin 7) (fun j _ hj => if_neg fun e => hj (Fin.ext (Nat.le_zero.mp e)))
      (fun e => absurd (Finset.mem_univ _) e)]
    exact (if_pos (le_refl 0)).symm
  | n + 1, h => by
    show chain addf f n (Nat.lt_of_succ_lt h) p + f ⟨n + 1, h⟩ p = _
    have e : f ⟨n + 1, h⟩ p = ∑ j : Fin 7, if j.val = n + 1 then f j p else 0 := by
      rw [Finset.sum_eq_single (⟨n + 1, h⟩ : Fin 7) (fun j _ hj => if_neg fun e => hj (Fin.ext e)) (fun e => absurd (Finset.mem_univ _) e)]
      exact (if_pos rfl).symm
    rw [chain_add f p n (Nat.lt_of_succ_lt h), e, ← Finset.sum_add_distrib]
    refine Finset.sum_congr rfl fun j _ => ?_
    by_cases h1 : j.val ≤ n
    · rw [if_pos h1, if_neg (by omega), if_pos (by omega), add_zero]
    · by_cases h2 : j.val = n + 1
      · rw [if_neg h1, if_pos h2, if_pos (by omega), zero_add]
      · rw [if_neg h1, if_neg h2, if_neg (by omega), zero_add]

/-- The tile and the row of a key. -/
theorem row_split (k : Fin 896) : ∃ (j : Fin 7) (r : Fin 128), row j r = k ∧ j.val = k.val / 128 :=
  ⟨⟨k.val / 128, by omega⟩, ⟨k.val % 128, by omega⟩, Fin.ext (by show 128 * (k.val / 128) + k.val % 128 = k.val; omega), rfl⟩

/-- The largest over the tiles up to `i` is the largest over all keys, where the later keys are no larger than the first. -/
theorem kmax (f : Fin 7 → FVec Ideal S128x128 .f32) (G : Fin 896 → EReal) (i : Fin 7) (l : Fin 128)
    (hf : ∀ j r, j.val ≤ i.val → f j (ix2 r l) = G (row j r)) (hz : ∀ k : Fin 896, 128 * (i.val + 1) ≤ k.val → G k ≤ G 0) :
    rmax1 (chain maximumf (fun j => rmax8 (f j)) i.val i.isLt) (ix2 0 l) = Finset.univ.sup G := by
  have hle : ∀ c, rmax1 (chain maximumf (fun j => rmax8 (f j)) i.val i.isLt) (ix2 0 l) ≤ c ↔ ∀ j r, j.val ≤ i.val → G (row j r) ≤ c := by
    intro c
    rw [rmax1_apply, Finset.sup_le_iff]
    simp only [chain_max, rmax8_apply, Finset.sup_le_iff, Finset.mem_univ, true_implies]
    constructor
    · intro h j r hj
      have hr := r.isLt
      have := h ⟨r.val % 8, by omega⟩ j hj ⟨r.val / 8, by omega⟩
      rwa [show grp ⟨r.val / 8, by omega⟩ ⟨r.val % 8, by omega⟩ = r from Fin.ext (by show r.val / 8 * 8 + r.val % 8 = r.val; omega), hf j r hj] at this
    · intro h s j hj a
      rw [hf j _ hj]
      exact h j _ hj
  refine eq_of_forall_ge_iff fun c => ?_
  rw [hle, Finset.sup_le_iff]
  refine ⟨fun h k _ => ?_, fun h j r _ => h _ (Finset.mem_univ _)⟩
  obtain ⟨j, r, e, hj⟩ := row_split k
  by_cases hk : j.val ≤ i.val
  · rw [← e]; exact h j r hk
  · refine (hz k (by omega)).trans ?_
    exact h 0 0 (Nat.zero_le _)

/-- The sum over the tiles up to `i` is the sum over all keys, where the later keys are zero. -/
theorem ksum (f : Fin 7 → FVec Ideal S128x128 .f32) (G : Fin 896 → EReal) (i : Fin 7) (l : Fin 128)
    (hf : ∀ j r, j.val ≤ i.val → f j (ix2 r l) = G (row j r)) (hz : ∀ k : Fin 896, 128 * (i.val + 1) ≤ k.val → G k = 0) :
    rsum1 (chain addf (fun j => rsum8 (f j)) i.val i.isLt) (ix2 0 l) = ∑ k, G k := by
  rw [rsum1_apply]
  simp only [chain_add, rsum8_apply]
  have h1 : ∀ (s : Fin 8) (j : Fin 7), (if j.val ≤ i.val then ∑ a, f j (ix2 (grp a s) l) else 0) = ∑ a, G (row j (grp a s)) := by
    intro s j
    by_cases hj : j.val ≤ i.val
    · rw [if_pos hj]; exact Finset.sum_congr rfl fun a _ => hf j _ hj
    · rw [if_neg hj]
      refine (Finset.sum_eq_zero fun a _ => hz _ ?_).symm
      show 128 * (i.val + 1) ≤ 128 * j.val + _
      omega
  simp only [h1]
  rw [Finset.sum_comm]
  have h2 : ∀ j : Fin 7, (∑ s, ∑ a, G (row j (grp a s))) = ∑ r, G (row j r) := by
    intro j
    rw [Finset.sum_comm, ← Finset.sum_product', Finset.univ_product_univ]
    refine Fintype.sum_equiv finProdFinEquiv _ _ fun x => ?_
    refine congrArg (fun r => G (row j r)) (Fin.ext ?_)
    show x.1.val * 8 + x.2.val = x.2.val + 8 * x.1.val
    omega
  simp only [h2]
  rw [← Finset.sum_product', Finset.univ_product_univ]
  refine Fintype.sum_equiv (finProdFinEquiv (m := 7) (n := 128)) _ _ fun x => ?_
  refine congrArg G (Fin.ext ?_)
  show 128 * x.1.val + x.2.val = x.2.val + 128 * x.1.val
  omega

end Cert.KernelIdeal.Vocab
-- ==== Proof.OutVal.lean ====
/- The kernel's result tile over the extended reals, entry by entry. -/
module

public import proofs.«01_k».proof.Proof.RedVal

@[expose] public section

set_option maxRecDepth 16384

noncomputable section

namespace Cert.KernelIdeal.Vocab

open Idealize.ShloMosaic Idealize.ShloMosaic.TcCoe
open Cert.Scal

theorem wB_apply (em wm : FVec Ideal S1x128 .f32) (l : Fin 128) : wB em wm (ix2 0 l) = wBS (em (ix2 0 l)) (wm (ix2 0 l)) := by
  unfold wB
  simp only [pointwise, pow2_apply]
  rw [Consts.c448, Consts.half]
  rfl

theorem wMult_apply (em wm : FVec Ideal S1x128 .f32) (l : Fin 128) : wMult em wm (ix2 0 l) = wMultS (em (ix2 0 l)) (wm (ix2 0 l)) := by
  unfold wMult
  simp only [pointwise, wB_apply]
  rw [Consts.half]
  rfl

theorem wFactor_apply (em es wm vun : FVec Ideal S1x128 .f32) (l : Fin 128) :
    wFactor em es wm vun (ix2 0 l) = wFactorS (em (ix2 0 l)) (es (ix2 0 l)) (wm (ix2 0 l)) (vun (ix2 0 l)) := by
  unfold wFactor
  simp only [pointwise, wB_apply]
  rw [Consts.two]
  rfl

theorem wCodes_apply (n : ℕ) (em wm : FVec Ideal S1x128 .f32) (w : FVec Ideal ⟨2, ![n, 128]⟩ .f32) (k : Fin n) (l : Fin 128) :
    wCodes n em wm w (ix2 k l) = clipS (w (ix2 k l) * wMultS (em (ix2 0 l)) (wm (ix2 0 l))) := by
  rw [← wMult_apply, clipS, ← Consts.lo, ← Consts.hi]
  unfold wCodes
  simp only [pointwise]
  rfl

theorem wDot_apply (n : ℕ) (vt : FVec Ideal ⟨2, ![256, n]⟩ .fp8e4m3) (w0 w1 : FVec Ideal ⟨2, ![n, 128]⟩ .fp8e4m3) (d : Fin 256) (g : Fin 2) (l : Fin 128) :
    wDot n vt w0 w1 (ix2 d (lane g l)) = ∑ k, vt (ix2 d k) * (match g with | 0 => w0 | 1 => w1) (ix2 k l) := by
  have hc : ∀ k, concatenate (α := EReal) ⟨2, ![n, 256]⟩ 1 [⟨⟨2, ![n, 128]⟩, w0⟩, ⟨⟨2, ![n, 128]⟩, w1⟩] (concatRows n) (ix2 k (lane g l))
      = (match g with | 0 => w0 | 1 => w1) (ix2 k l) := by
    intro k
    simp only [pointwise]
    match g with
    | 0 =>
      have h : (lane 0 l).val < 128 := by show 128 * 0 + l.val < 128; omega
      refine (dif_pos h).trans ?_
      refine congrArg w0 ?_
      funext a
      apply Fin.ext
      match a with
      | ⟨0, _⟩ => rfl
      | ⟨1, _⟩ => show 128 * 0 + l.val = l.val; omega
    | 1 =>
      have h : ¬ (lane 1 l).val < 128 := by show ¬ 128 * 1 + l.val < 128; omega
      refine (dif_neg h).trans ?_
      refine congrArg w1 ?_
      funext a
      apply Fin.ext
      match a with
      | ⟨0, _⟩ => rfl
      | ⟨1, _⟩ => show 128 * 1 + l.val - 128 = l.val; omega
  refine (Ideal.matmul_plain_apply none vt _ _ d (lane g l)).trans ?_
  refine (congrArg₂ (· + ·) Consts.zero (Finset.sum_congr rfl fun k _ => congrArg (vt (ix2 d k) * ·) (hc k))).trans ?_
  exact zero_add _

theorem outTile_apply (g : Fin 2) (o : FVec Ideal S256x256 .f32) (f : FVec Ideal S1x128 .f32) (b : Fin 128) (d : Fin 256) :
    outTile g o f (ix3 0 b d) = o (ix2 d (lane g b)) * f (ix2 0 b) := by
  unfold outTile
  simp only [pointwise, unmat_apply]
  refine congrArg₂ (· * ·) (congrArg o ?_) rfl
  funext a
  apply Fin.ext
  match a with
  | ⟨0, _⟩ => show 0 + d.val = d.val; omega
  | ⟨1, _⟩ => rfl

theorem sum_seen (n : ℕ) (hn : n ≤ 896) (F : Fin 896 → EReal) (hz : ∀ k : Fin 896, n ≤ k.val → F k = 0) :
    (∑ k : Fin n, F ⟨k.val, lt_of_lt_of_le k.isLt hn⟩) = ∑ k, F k := by
  let g : ℕ → EReal := fun k => if h : k < 896 then F ⟨k, h⟩ else 0
  have e1 : (∑ k : Fin n, F ⟨k.val, lt_of_lt_of_le k.isLt hn⟩) = ∑ k : Fin n, g k.val :=
    Finset.sum_congr rfl fun k _ => by
    show _ = if h : k.val < 896 then F ⟨k.val, h⟩ else 0
    rw [dif_pos (lt_of_lt_of_le k.isLt hn)]
  have e2 : (∑ k, F k) = ∑ k : Fin 896, g k.val := Finset.sum_congr rfl fun k _ => by
    show _ = if h : k.val < 896 then F ⟨k.val, h⟩ else 0
    rw [dif_pos k.isLt]
  rw [e1, e2, Fin.sum_univ_eq_sum_range, Fin.sum_univ_eq_sum_range]
  refine Finset.sum_subset (Finset.range_subset_range.mpr hn) fun k hk hk' => ?_
  have h1 : k < 896 := Finset.mem_range.mp hk
  show (if h : k < 896 then F ⟨k, h⟩ else 0) = 0
  rw [dif_pos h1]
  exact hz _ (by simpa using hk')

theorem expS_nonneg (X K : Fin 896 → Fin 256 → EReal) (q k : Fin 896) : 0 ≤ expS X K q k := by
  unfold expS
  split_ifs
  · rw [exp2_cap]; exact_mod_cast (Real.exp_pos _).le
  · exact le_refl 0

theorem expS_later (X K : Fin 896 → Fin 256 → EReal) (i : Fin 7) (b : Fin 128) (k : Fin 896) (h : 128 * (i.val + 1) ≤ k.val) :
    expS X K (row i b) k = 0 := by
  refine if_neg ?_
  show ¬ k.val ≤ 128 * i.val + b.val
  omega

theorem clipS_zero : clipS 0 = 0 := clipS_coe 0 (le_refl 0) (by norm_num)

/-- A key a query tile sees, as a key. -/
abbrev seen (i : Fin 7) (k : Fin (nk i)) : Fin 896 := ⟨k.val, lt_of_lt_of_le k.isLt (by show 128 * (i.val + 1) ≤ 896; omega)⟩

section env

variable {X : Fin 2 → Fin 896 → Fin 256 → EReal} {K V : Fin 896 → Fin 256 → EReal}
variable {rx : Fin 7 → Fin 2 → FVec Ideal S1x128x256 .bf16} {rv : Fin 7 → FVec Ideal S1x128x256 .bf16}
  {rkc : Fin 7 → FVec Ideal S1x128x256 .fp8e4m3} {rkcol rvcol : Fin 7 → FVec Ideal S128x128 .f32}

/-- The largest value scale of the loaded values. -/
theorem vmax_apply (hv : ∀ i r d, rv i (ix3 0 r d) = V (row i r) d) (l : Fin 128) : vmax rv (ix2 0 l) = vmaxS (rowSc V) := by
  have h := kmax (fun i => rowScale (mat (rv i))) (rowSc V) 6 l (fun j r _ => by
    show rowScale (mat (rv j)) (ix2 r l) = _
    rw [rowScale_apply]
    simp only [mat_apply, hv]
    rfl) (fun k hk => by have := k.isLt; change 128 * (6 + 1) ≤ k.val at hk; omega)
  rw [vmaxS, ← h, ← Consts.tiny]
  rfl

theorem vnorm_apply (hv : ∀ i r d, rv i (ix3 0 r d) = V (row i r) d) (l : Fin 128) : vnorm rv (ix2 0 l) = vnormS (rowSc V) := by
  rw [vnormS, ← vmax_apply hv l, ← Consts.one, ← Consts.p40]
  rfl

theorem vunnorm_apply (hv : ∀ i r d, rv i (ix3 0 r d) = V (row i r) d) (l : Fin 128) : vunnorm rv (ix2 0 l) = vunS (rowSc V) := by
  rw [vunS, ← vmax_apply hv l, ← Consts.m40]
  rfl

theorem em_apply (H : Reads X K V rx rv rkc rkcol rvcol) (i : Fin 7) (g : Fin 2) (b : Fin 128) :
    em rx rkc rkcol i g (ix2 0 b) = Finset.univ.sup (expS (X g) K (row i b)) :=
  kmax _ _ i b (fun j r hj => expT_apply H i g j hj r b) fun k hk => by rw [expS_later _ _ i b k hk]; exact expS_nonneg _ _ _ _

theorem es_apply (H : Reads X K V rx rv rkc rkcol rvcol) (i : Fin 7) (g : Fin 2) (b : Fin 128) :
    es rx rkc rkcol i g (ix2 0 b) = ∑ k, expS (X g) K (row i b) k :=
  ksum _ _ i b (fun j r hj => expT_apply H i g j hj r b) fun k hk => expS_later _ _ i b k hk

theorem wm_apply (H : Reads X K V rx rv rkc rkcol rvcol) (hV : 0 ≤ rowSc V 0 * vnormS (rowSc V)) (i : Fin 7) (g : Fin 2) (b : Fin 128) :
    wm rx rkc rkcol rvcol i g (ix2 0 b) = Finset.univ.sup (kerW (expS (X g) K (row i b)) (rowSc V)) :=
  kmax _ _ i b (fun j r hj => wT_apply H i g j hj r b) fun k hk => by
    rw [kerW, expS_later _ _ i b k hk, zero_mul]; exact mul_nonneg (expS_nonneg _ _ _ _) hV

/-- One entry of the result's tile. -/
theorem outT_apply (H : Reads X K V rx rv rkc rkcol rvcol) (hV : 0 ≤ rowSc V 0 * vnormS (rowSc V))
    (rvt : (i : Fin 7) → FVec Ideal ⟨2, ![256, nk i]⟩ .fp8e4m3) (rw_ : (i : Fin 7) → Fin 2 → FVec Ideal ⟨2, ![nk i, 128]⟩ .f32)
    (hvt : ∀ i d (k : Fin (nk i)), rvt i (ix2 d k) = rowCo V (seen i k) d)
    (hw : ∀ i g (k : Fin (nk i)) b, rw_ i g (ix2 k b) = kerW (expS (X g) K (row i b)) (rowSc V) (seen i k))
    (i : Fin 7) (g : Fin 2) (b : Fin 128) (d : Fin 256) :
    outT rx rv rkc rkcol rvcol rvt rw_ i g (ix3 0 b d) = outS (X g) K V (row i b) d := by
  have hsel : ∀ k : Fin (nk i), (match g with
      | 0 => wCodes (nk i) (em rx rkc rkcol i 0) (wm rx rkc rkcol rvcol i 0) (rw_ i 0)
      | 1 => wCodes (nk i) (em rx rkc rkcol i 1) (wm rx rkc rkcol rvcol i 1) (rw_ i 1)) (ix2 k b) =
      clipS (kerW (expS (X g) K (row i b)) (rowSc V) (seen i k) *
        wMultS (Finset.univ.sup (expS (X g) K (row i b))) (Finset.univ.sup (kerW (expS (X g) K (row i b)) (rowSc V)))) := by
    intro k
    match g with
    | 0 => rw [← hw, ← em_apply H i 0 b, ← wm_apply H hV i 0 b]; exact wCodes_apply _ _ _ _ k b
    | 1 => rw [← hw, ← em_apply H i 1 b, ← wm_apply H hV i 1 b]; exact wCodes_apply _ _ _ _ k b
  rw [outT, outTile_apply, wDot_apply, wFactor_apply, em_apply H, es_apply H, wm_apply H hV, vunnorm_apply H.v, outS, kerRow]
  refine congrArg (· * _) ?_
  simp only [hsel, hvt]
  refine sum_seen (nk i) (by have := i.isLt; show 128 * (i.val + 1) ≤ 896; omega) (fun k => rowCo V k d * clipS (kerW (expS (X g) K (row i b)) (rowSc V) k *
    wMultS (Finset.univ.sup (expS (X g) K (row i b))) (Finset.univ.sup (kerW (expS (X g) K (row i b)) (rowSc V))))) fun k hk => ?_
  show _ * clipS _ = 0
  rw [kerW, expS_later _ _ i b k hk, zero_mul, zero_mul, clipS_zero, mul_zero]

end env

end Cert.KernelIdeal.Vocab
-- ==== Proof.Canon.lean ====
/- What a buffer holds after a list of stores, for the lists the kernel's body makes. -/
module

public import proofs.«01_k».proof.Proof.Vocab
public import Idealize.ShloMosaic.Lib.Pipeline.Value
public import Idealize.ShloMosaic.Lib.Pipeline.ReadBack

@[expose] public section

set_option maxRecDepth 16384

noncomputable section

namespace Cert.KernelIdeal.Vocab

open Idealize.ShloMosaic Idealize.ShloMosaic.TcCoe

variable {F : FTy → Type} [FloatOps F] [Named F]
variable {ι : Type} {κ : Kind} {sp : Space} {S : Shape} {e : EltTy}

/-- Stores that are all tiles of one function leave that function where they reach. -/
theorem canon_map (r : ι → Rect S) (w : (i : ι) → ((r i).shape.Idx → Elt F e)) (G : S.Idx → Elt F e) (l : List ι)
    (hw : ∀ i ∈ l, ∀ x, w i x = G ((r i).emb x)) (y : S.Idx) (hy : ∃ i ∈ l, y ∈ (r i).set) :
    View.canon (Val := Elt F) (l.map fun i => (⟨r i, w i⟩ : View.Piece (Elt F) S e)) y = G y := by
  refine View.canon_apply_of_pieces G _ ?_ y ?_
  · intro p hp x
    obtain ⟨i, hi, rfl⟩ := List.mem_map.mp hp
    exact hw i hi x
  · obtain ⟨i, hi, hm⟩ := hy
    exact ⟨_, List.mem_map.mpr ⟨i, hi, rfl⟩, hm⟩

/-- Stores each replacing what it finds at some places of its rectangle by one function's values. -/
theorem canon_rmw_set (v : View sig κ sp S e) (r : ι → Rect S) (f : (i : ι) → ((r i).shape.Idx → Elt F e) → ((r i).shape.Idx → Elt F e))
    (hit : ι → S.Idx → Prop) (G : S.Idx → Elt F e) [∀ i y, Decidable (hit i y)]
    (hf : ∀ i (h : S.Idx → Elt F e) x, f i (fun x => h ((r i).emb x)) x = if hit i ((r i).emb x) then G ((r i).emb x) else h ((r i).emb x)) (y : S.Idx) :
    ∀ (l : List ι) (L : List (View.Piece (Elt F) S e)), [Decidable (∃ i ∈ l, y ∈ (r i).set ∧ hit i y)] →
      View.canon (Val := Elt F) (rmw v r f l L) y = if ∃ i ∈ l, y ∈ (r i).set ∧ hit i y then G y else View.canon (Val := Elt F) L y
  | [], L, _ => (if_neg (by rintro ⟨i, hi, -⟩; exact absurd hi List.not_mem_nil)).symm
  | i :: l, L, _ => by
    classical
    have h1 : View.canon (Val := Elt F) (⟨r i, f i (v.readCov L (r i).toLoadRect)⟩ :: L) y =
        if y ∈ (r i).set ∧ hit i y then G y else View.canon (Val := Elt F) L y := by
      by_cases hm : y ∈ (r i).set
      · obtain ⟨x, rfl⟩ := (r i).exists_idx_of_mem hm
        rw [show (r i).idx x = (r i).emb x from rfl, View.canon_cons_emb, View.readCov_eq_canon']
        refine (hf i (View.canon (Val := Elt F) L) x).trans (if_congr ?_ rfl rfl)
        exact ⟨fun h => ⟨hm, h⟩, fun h => h.2⟩
      · rw [View.canon_cons_of_not_mem _ _ hm, if_neg fun h => hm h.1]
    rw [rmw, canon_rmw_set v r f hit G hf y l, h1]
    by_cases hl : ∃ i ∈ l, y ∈ (r i).set ∧ hit i y
    · rw [if_pos hl, if_pos]
      obtain ⟨j, hj, h⟩ := hl
      exact ⟨j, List.mem_cons_of_mem _ hj, h⟩
    · rw [if_neg hl]
      refine if_congr ⟨fun h => ⟨i, List.mem_cons_self, h⟩, ?_⟩ rfl rfl
      rintro ⟨j, hj, h⟩
      rcases List.mem_cons.mp hj with rfl | hj
      · exact h
      · exact absurd ⟨j, hj, h⟩ hl

/-- Stores off a place leave it. -/
theorem canon_rmw_off (v : View sig κ sp S e) (r : ι → Rect S) (f : (i : ι) → ((r i).shape.Idx → Elt F e) → ((r i).shape.Idx → Elt F e)) (y : S.Idx) :
    ∀ (l : List ι) (L : List (View.Piece (Elt F) S e)), (∀ i ∈ l, y ∉ (r i).set) →
      View.canon (Val := Elt F) (rmw v r f l L) y = View.canon (Val := Elt F) L y
  | [], _, _ => rfl
  | i :: l, L, h => by
    rw [rmw, canon_rmw_off v r f y l _ fun j hj => h j (List.mem_cons_of_mem _ hj), View.canon_cons_of_not_mem _ _ (h i List.mem_cons_self)]

/-- Stores at disjoint rectangles, each changing what it finds, once each. -/
theorem canon_rmw_once (v : View sig κ sp S e) (r : ι → Rect S) (f : (i : ι) → ((r i).shape.Idx → Elt F e) → ((r i).shape.Idx → Elt F e))
    (hd : ∀ i j, i ≠ j → ∀ x, (r i).emb x ∉ (r j).set) :
    ∀ (l : List ι) (L : List (View.Piece (Elt F) S e)), l.Nodup → ∀ i ∈ l, ∀ x,
      View.canon (Val := Elt F) (rmw v r f l L) ((r i).emb x) = f i (fun x => View.canon (Val := Elt F) L ((r i).emb x)) x
  | [], _, _, i, hi, _ => absurd hi List.not_mem_nil
  | j :: l, L, hn, i, hi, x => by
    rw [List.nodup_cons] at hn
    rw [rmw]
    by_cases hij : i = j
    · subst hij
      rw [canon_rmw_off v r f _ l _ fun k hk => hd i k (fun e => hn.1 (e ▸ hk)) x, View.canon_cons_emb, View.readCov_eq_canon']
      rfl
    · have hi' : i ∈ l := (List.mem_cons.mp hi).resolve_left hij
      rw [canon_rmw_once v r f hd l _ hn.2 i hi' x]
      refine congrArg (fun h => f i h x) (funext fun x => ?_)
      exact View.canon_cons_of_not_mem _ _ (hd i j hij x)

end Cert.KernelIdeal.Vocab
-- ==== Proof.PiecesA.lean ====
/- The stores of the body, as the tiles' functions, at the first key-value head. -/
module

public import proofs.«01_k».proof.Proof.Vocab

@[expose] public section

set_option maxRecDepth 16384

noncomputable section

namespace Cert.KernelIdeal.Vocab

open Idealize.ShloMosaic Idealize.ShloMosaic.TcCoe
open Cert.KernelIdeal.Gen

variable {F : FTy → Type} [FloatOps F] [Named F]
variable (c : Dev nD) (i : grid0.Coords) (arg2 : Memref sig .tc .vmem S1x896x512 .bf16) (harg2 : arg2.IsWhole) (arg3 : Memref sig .tc .vmem S1x896x256 .bf16) (harg3 : arg3.IsWhole) (arg4 : Memref sig .tc .vmem S1x896x256 .bf16) (harg4 : arg4.IsWhole) (arg5 : Memref sig .tc .vmem S1x896x512 .bf16) (harg5 : arg5.IsWhole) (arg6 : Memref sig .tc .vmem S1x896x512 .fp8e4m3) (harg6 : arg6.IsWhole) (arg7 : Memref sig .tc .vmem S1x896x8 .f32) (harg7 : arg7.IsWhole) (arg8 : Memref sig .tc .vmem S1x896x256 .fp8e4m3) (harg8 : arg8.IsWhole) (arg9 : Memref sig .tc .vmem S1x896x4 .f32) (harg9 : arg9.IsWhole) (arg10 : Memref sig .tc .vmem S1x896x256 .fp8e4m3) (harg10 : arg10.IsWhole) (arg11 : Memref sig .tc .vmem S1x896x4 .f32) (harg11 : arg11.IsWhole) (arg12 : Memref sig .tc .vmem S896x128 .f32) (harg12 : arg12.IsWhole) (arg13 : Memref sig .tc .vmem S896x128 .f32) (harg13 : arg13.IsWhole) (arg14 : Memref sig .tc .vmem S256x896 .fp8e4m3) (harg14 : arg14.IsWhole) (arg15 : Memref sig .tc .vmem S896x256 .f32) (harg15 : arg15.IsWhole) (hc0 : cond0_0 i)
  (x0 : Vec F S1x896x512 .bf16) (x1 : Vec F S1x896x256 .bf16) (x2 : Vec F S1x896x256 .bf16)

/-- What a load of a query tile reads. -/
abbrev lx (i : Fin 7) (g : Fin 2) : FVec F S1x128x256 .bf16 := View.readAt (Elt F) arg2.view (rX i g).toLoadRect (harg2.unread x0)
/-- What a load of a key or value tile reads. -/
abbrev lk (i : Fin 7) : FVec F S1x128x256 .bf16 := View.readAt (Elt F) arg3.view (rK i).toLoadRect (harg3.unread x1)

/-- What a load of a value tile reads. -/
abbrev lv (i : Fin 7) : FVec F S1x128x256 .bf16 := View.readAt (Elt F) arg4.view (rK i).toLoadRect (harg4.unread x2)

/-- What a load of a key code tile reads. -/
abbrev lkc (j : Fin 7) : FVec F S1x128x256 .fp8e4m3 := arg8.view.readCov (pKc (lk arg3 harg3 x1)) (rK j).toLoadRect
/-- What a load of a key scale tile reads. -/
abbrev lkcol (j : Fin 7) : FVec F S128x128 .f32 := arg12.view.readCov (pCol (lk arg3 harg3 x1)) (rCol j).toLoadRect
/-- The value scales' stores: each tile as it is, then each tile normalised. -/
abbrev pVcol : List (View.Piece (Elt F) S896x128 .f32) :=
  rmw arg13.view rCol (fun _ old => shapeCast S128x128 (mulf old (broadcastTo S128x128 (vnorm (lv arg4 harg4 x2)) broadcasts_S1x128_S128x128))
    shapeCasts_S128x128_S128x128) [0, 1, 2, 3, 4, 5, 6] (pCol (lv arg4 harg4 x2))
/-- What a load of a value scale tile reads. -/
abbrev lvcol (j : Fin 7) : FVec F S128x128 .f32 := arg13.view.readCov (pVcol arg4 harg4 arg13 x2) (rCol j).toLoadRect
/-- What a load of the transposed values reads. -/
abbrev lvt (i : Fin 7) : FVec F ⟨2, ![256, nk i]⟩ .fp8e4m3 := arg14.view.readCov (pVt (lv arg4 harg4 x2)) (rVtTo i).toLoadRect
/-- The weights' stores of the query tiles `6 … 6 - n`. -/
abbrev pWs (n : ℕ) (h : n < 7) : List (View.Piece (Elt F) S896x256 .f32) :=
  pW (lx arg2 harg2 x0) (lkc arg3 harg3 arg8 x1) (lkcol arg3 harg3 arg12 x1) (lvcol arg4 harg4 arg13 x2) n h
/-- What a load of the weights of the keys a query tile sees reads. -/
abbrev lw (i : Fin 7) (g : Fin 2) : FVec F ⟨2, ![nk i, 128]⟩ .f32 :=
  arg15.view.readCov (pWs arg2 harg2 arg3 harg3 arg4 harg4 arg8 arg12 arg13 x0 x1 x2 (6 - i.val) (by omega)) (rWTo i g).toLoadRect

/-- The result's stores. -/
abbrev pOuts : List (View.Piece (Elt F) S1x896x512 .bf16) :=
  pOut (lx arg2 harg2 x0) (lv arg4 harg4 x2) (lkc arg3 harg3 arg8 x1) (lkcol arg3 harg3 arg12 x1) (lvcol arg4 harg4 arg13 x2)
    (lvt arg4 harg4 arg14 x2) (lw arg2 harg2 arg3 harg3 arg4 harg4 arg8 arg12 arg13 arg15 x0 x1 x2)

/-- The query scales' stores on top of `L`: for each query tile, last first, each head's column. -/
abbrev pQs (L : List (View.Piece (Elt F) S1x896x8 .f32)) : List (View.Piece (Elt F) S1x896x8 .f32) :=
  rmw arg7.view (fun p : Fin 7 × Fin 2 => rQs p.1)
    (fun p old => setCol8 (headWord (BitVec.ofNat 32 (i 1).val) p.2) (rowScale (mat (lx arg2 harg2 x0 p.1 p.2))) old)
    [(6, 0), (6, 1), (5, 0), (5, 1), (4, 0), (4, 1), (3, 0), (3, 1), (2, 0), (2, 1), (1, 0), (1, 1), (0, 0), (0, 1)] L
/-- The key or value scales' stores on top of `L`. -/
abbrev pKs (v : View sig .tc .vmem S1x896x4 .f32) (r : Fin 7 → FVec F S1x128x256 .bf16) (L : List (View.Piece (Elt F) S1x896x4 .f32)) :
    List (View.Piece (Elt F) S1x896x4 .f32) :=
  rmw v rKs (fun j old => setCol4 (BitVec.ofNat 32 (i 1).val) (rowScale (mat (r j))) old) [0, 1, 2, 3, 4, 5, 6] L

/-- The query scales' stores over earlier contents: for each query tile, last first, the two heads' columns. -/
def pQsB (rd : (t : Fin 7) → (rQs t).shape.Idx → F .f32) : List (Fin 7) → List (View.Piece (Elt F) S1x896x8 .f32) → List (View.Piece (Elt F) S1x896x8 .f32)
  | [], L => L
  | t :: l, L =>
    let st (g : Fin 2) (old : (rQs t).shape.Idx → F .f32) : View.Piece (Elt F) S1x896x8 .f32 :=
      ⟨rQs t, setCol8 (headWord (BitVec.ofNat 32 (i 1).val) g) (rowScale (mat (lx arg2 harg2 x0 t g))) old⟩
    pQsB rd l (st 1 (arg7.view.readCov (st 0 (rd t) :: L) (rQs t).toLoadRect) :: st 0 (rd t) :: L)

/-- The key or value scales' stores over earlier contents. -/
def pKsB (rd : (t : Fin 7) → (rKs t).shape.Idx → F .f32) (r : Fin 7 → FVec F S1x128x256 .bf16) : List (View.Piece (Elt F) S1x896x4 .f32) :=
  ([6, 5, 4, 3, 2, 1, 0] : List (Fin 7)).map fun t => ⟨rKs t, setCol4 (BitVec.ofNat 32 (i 1).val) (rowScale (mat (r t))) (rd t)⟩

/-- Zero everywhere. -/
abbrev pZero8 : List (View.Piece (Elt F) S1x896x8 .f32) := [⟨Rect.unit ![0, 0, 0] S1x896x8.size inb_S1x896x8_S1x896x8_0_0_0, k32 S1x896x8 0x00000000#32⟩]
/-- Zero everywhere. -/
abbrev pZero4 : List (View.Piece (Elt F) S1x896x4 .f32) := [⟨Rect.unit ![0, 0, 0] S1x896x4.size inb_S1x896x4_S1x896x4_0_0_0, k32 S1x896x4 0x00000000#32⟩]

/-- The result's stores. -/
theorem A_out : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).1 = pOuts arg2 harg2 arg3 harg3 arg4 harg4 arg8 arg12 arg13 arg14 arg15 x0 x1 x2 := by
  with_unfolding_all rfl
/-- The query codes' stores. -/
theorem A_qc : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.1 = pQc (lx arg2 harg2 x0) := by
  with_unfolding_all rfl
/-- The query scales' stores. -/
theorem A_qs : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.1 = pQs i arg2 harg2 arg7 x0 pZero8 := by
  with_unfolding_all rfl
/-- The key codes' stores. -/
theorem A_kc : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.1 = pKc (lk arg3 harg3 x1) := by
  with_unfolding_all rfl
/-- The key scales' stores. -/
theorem A_ks : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.1 = pKs i arg9.view (lk arg3 harg3 x1) pZero4 := by
  with_unfolding_all rfl
/-- The value codes' stores. -/
theorem A_vc : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.1 = pKc (lv arg4 harg4 x2) := by
  with_unfolding_all rfl
/-- The value scales' stores. -/
theorem A_vs : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.1 = pKs i arg11.view (lv arg4 harg4 x2) pZero4 := by
  with_unfolding_all rfl

end Cert.KernelIdeal.Vocab
-- ==== Proof.Loads.lean ====
/- What the kernel's loads read, over the extended reals, in terms of one program's blocks. -/
module

public import proofs.«01_k».proof.Proof.OutVal
public import proofs.«01_k».proof.Proof.Canon
public import proofs.«01_k».proof.Proof.PiecesA
public import Idealize.ShloMosaic.Lib.Pipeline.ValueKit

@[expose] public section

set_option maxRecDepth 16384

noncomputable section

namespace Cert.KernelIdeal.Vocab

open Idealize.ShloMosaic Idealize.ShloMosaic.TcCoe
open Cert.KernelIdeal.Gen
open Cert.Scal

/-- The rows of one head of a block of queries. -/
def xRow (x : Vec Ideal S1x896x512 .bf16) (g : Fin 2) (q : Fin 896) (d : Fin 256) : EReal :=
  x (ix3 0 q (⟨256 * g.val + d.val, by omega⟩ : Fin 512))
/-- The rows of a block of keys or values. -/
def kRow (x : Vec Ideal S1x896x256 .bf16) (k : Fin 896) (d : Fin 256) : EReal := x (ix3 0 k d)

/-! ### Where a rectangle's entries lie -/

theorem embX (i : Fin 7) (g : Fin 2) (a : Fin 1) (r : Fin 128) (d : Fin 256) :
    (rX i g).emb (ix3 a r d) = ix3 0 (row i r) (⟨256 * g.val + d.val, by omega⟩ : Fin 512) := by
  funext b
  apply Fin.ext
  refine (ValueKit.rect_emb_unit_val _ _ _ _ _).trans ?_
  match b with
  | ⟨0, _⟩ => show 0 + a.val = 0; omega
  | ⟨1, _⟩ => rfl
  | ⟨2, _⟩ => rfl

theorem embK (i : Fin 7) (a : Fin 1) (r : Fin 128) (d : Fin 256) : (rK i).emb (ix3 a r d) = ix3 0 (row i r) d := by
  funext b
  apply Fin.ext
  refine (ValueKit.rect_emb_unit_val _ _ _ _ _).trans ?_
  match b with
  | ⟨0, _⟩ => show 0 + a.val = 0; omega
  | ⟨1, _⟩ => rfl
  | ⟨2, _⟩ => show 0 + d.val = d.val; omega

theorem embQs (i : Fin 7) (a : Fin 1) (r : Fin 128) (h : Fin 8) : (rQs i).emb (ix3 a r h) = ix3 0 (row i r) h := by
  funext b
  apply Fin.ext
  refine (ValueKit.rect_emb_unit_val _ _ _ _ _).trans ?_
  match b with
  | ⟨0, _⟩ => show 0 + a.val = 0; omega
  | ⟨1, _⟩ => rfl
  | ⟨2, _⟩ => show 0 + h.val = h.val; omega

theorem embKs (i : Fin 7) (a : Fin 1) (r : Fin 128) (h : Fin 4) : (rKs i).emb (ix3 a r h) = ix3 0 (row i r) h := by
  funext b
  apply Fin.ext
  refine (ValueKit.rect_emb_unit_val _ _ _ _ _).trans ?_
  match b with
  | ⟨0, _⟩ => show 0 + a.val = 0; omega
  | ⟨1, _⟩ => rfl
  | ⟨2, _⟩ => show 0 + h.val = h.val; omega

theorem embCol (i : Fin 7) (r l : Fin 128) : (rCol i).emb (ix2 r l) = ix2 (row i r) l := by
  funext b
  apply Fin.ext
  refine (ValueKit.rect_emb_unit_val _ _ _ _ _).trans ?_
  match b with
  | ⟨0, _⟩ => rfl
  | ⟨1, _⟩ => show 0 + l.val = l.val; omega

theorem embVt (i : Fin 7) (d : Fin 256) (r : Fin 128) : (rVt i).emb (ix2 d r) = ix2 d (row i r) := by
  funext b
  apply Fin.ext
  refine (ValueKit.rect_emb_unit_val _ _ _ _ _).trans ?_
  match b with
  | ⟨0, _⟩ => show 0 + d.val = d.val; omega
  | ⟨1, _⟩ => rfl

theorem embVtTo (i : Fin 7) (d : Fin 256) (k : Fin (nk i)) : (rVtTo i).emb (ix2 d k) = ix2 d (seen i k) := by
  funext b
  apply Fin.ext
  refine (ValueKit.rect_emb_unit_val _ _ _ _ _).trans ?_
  match b with
  | ⟨0, _⟩ => show 0 + d.val = d.val; omega
  | ⟨1, _⟩ => show 0 + k.val = k.val; omega

theorem embW (j : Fin 7) (g : Fin 2) (a b : Fin 128) : (rW j g).emb (ix2 a b) = ix2 (row j a) (lane g b) := by
  funext c
  apply Fin.ext
  refine (ValueKit.rect_emb_unit_val _ _ _ _ _).trans ?_
  match c with
  | ⟨0, _⟩ => rfl
  | ⟨1, _⟩ => rfl

theorem embWTo (i : Fin 7) (g : Fin 2) (k : Fin (nk i)) (b : Fin 128) : (rWTo i g).emb (ix2 k b) = ix2 (seen i k) (lane g b) := by
  funext c
  apply Fin.ext
  refine (ValueKit.rect_emb_unit_val _ _ _ _ _).trans ?_
  match c with
  | ⟨0, _⟩ => show 0 + k.val = k.val; omega
  | ⟨1, _⟩ => rfl

/-! ### Loads of the inputs -/

section loads

variable (arg2 : Memref sig .tc .vmem S1x896x512 .bf16) (harg2 : arg2.IsWhole) (arg3 : Memref sig .tc .vmem S1x896x256 .bf16) (harg3 : arg3.IsWhole)
  (arg4 : Memref sig .tc .vmem S1x896x256 .bf16) (harg4 : arg4.IsWhole)
  (x0 : Vec Ideal S1x896x512 .bf16) (x1 : Vec Ideal S1x896x256 .bf16) (x2 : Vec Ideal S1x896x256 .bf16)

theorem lx_apply (i : Fin 7) (g : Fin 2) (a : Fin 1) (r : Fin 128) (d : Fin 256) : lx arg2 harg2 x0 i g (ix3 a r d) = xRow x0 g (row i r) d := by
  show arg2.view.read (Elt Ideal) (harg2.unread x0) ((rX i g).emb (ix3 a r d)) = _
  rw [harg2.read_unread, embX]
  rfl

theorem lk_apply (i : Fin 7) (a : Fin 1) (r : Fin 128) (d : Fin 256) : lk arg3 harg3 x1 i (ix3 a r d) = kRow x1 (row i r) d := by
  show arg3.view.read (Elt Ideal) (harg3.unread x1) ((rK i).emb (ix3 a r d)) = _
  rw [harg3.read_unread, embK]
  rfl

theorem lv_apply (i : Fin 7) (a : Fin 1) (r : Fin 128) (d : Fin 256) : lv arg4 harg4 x2 i (ix3 a r d) = kRow x2 (row i r) d :=
  lk_apply arg4 harg4 x2 i a r d

end loads

/-! ### The stores that are tiles of one function -/

theorem mem7 (i : Fin 7) : i ∈ ([6, 5, 4, 3, 2, 1, 0] : List (Fin 7)) := by revert i; decide

theorem codes8_row (t : FVec Ideal S1x128x256 .bf16) (f : Fin 256 → EReal) (r : Fin 128) (hf : ∀ d, t (ix3 0 r d) = f d) (d : Fin 256) :
    codes8 (mat t) (ix2 r d) = codeS f d := by
  rw [codes8_apply]
  simp only [mat_apply, hf]

theorem scale_row (t : FVec Ideal S1x128x256 .bf16) (f : Fin 256 → EReal) (r : Fin 128) (hf : ∀ d, t (ix3 0 r d) = f d) (l : Fin 128) :
    rowScale (mat t) (ix2 r l) = scaleS (rowA f) := by
  rw [rowScale_apply]
  simp only [mat_apply, hf]

section tiles

variable (r : Fin 7 → FVec Ideal S1x128x256 .bf16) (T : Fin 896 → Fin 256 → EReal) (hr : ∀ i a d, r i (ix3 0 a d) = T (row i a) d)
include hr

/-- The codes' stores leave the codes. -/
theorem canon_pKc (k : Fin 896) (d : Fin 256) : View.canon (Val := Elt Ideal) (pKc r) (ix3 0 k d) = rowCo T k d := by
  refine canon_map (F := Ideal) (e := .fp8e4m3) rK (fun i => unmat (codes8 (mat (r i)))) (fun y => rowCo T (y 1) (y 2)) _ (fun i _ x => ?_) _ ?_
  · idx_vars x
    rw [unmat_apply, embK]
    exact codes8_row _ _ _ (hr i _) _
  · obtain ⟨j, a, e, -⟩ := row_split k
    exact ⟨j, mem7 j, by rw [← e, ← embK j 0 a d]; exact (rK j).idx_mem _⟩

/-- The spread scales' stores leave the scales. -/
theorem canon_pCol (k : Fin 896) (l : Fin 128) : View.canon (Val := Elt Ideal) (pCol r) (ix2 k l) = rowSc T k := by
  refine canon_map (F := Ideal) (e := .f32) rCol (fun i => shapeCast S128x128 (rowScale (mat (r i))) Facts₀.shapeCasts_S128x128_S128x128) (fun y => rowSc T (y 0)) _ (fun i _ x => ?_) _ ?_
  · idx_vars x
    rw [embCol]
    refine (congrFun (shapeCast_self _ _) _).trans ?_
    exact scale_row _ _ _ (hr i _) _
  · obtain ⟨j, a, e, -⟩ := row_split k
    exact ⟨j, mem7 j, by rw [← e, ← embCol j a l]; exact (rCol j).idx_mem _⟩

/-- The transposed codes' stores leave the transposed codes. -/
theorem canon_pVt (k : Fin 896) (d : Fin 256) : View.canon (Val := Elt Ideal) (pVt r) (ix2 d k) = rowCo T k d := by
  refine canon_map (F := Ideal) (e := .fp8e4m3) rVt (fun i => vtTile (mat (r i))) (fun y => rowCo T (y 1) (y 0)) _ (fun i _ x => ?_) _ ?_
  · idx_vars x
    rw [embVt, vtTile_apply]
    simp only [mat_apply, hr]
    rfl
  · obtain ⟨j, a, e, -⟩ := row_split k
    exact ⟨j, mem7 j, by rw [← e, ← embVt j d a]; exact (rVt j).idx_mem _⟩

end tiles

end Cert.KernelIdeal.Vocab
-- ==== Proof.Body.lean ====
/- What the kernel's stores leave in its scratch and in its results, over the extended reals. -/
module

public import proofs.«01_k».proof.Proof.Loads

@[expose] public section

set_option maxRecDepth 16384

noncomputable section

namespace Cert.KernelIdeal.Vocab

open Idealize.ShloMosaic Idealize.ShloMosaic.TcCoe
open Cert.KernelIdeal.Gen
open Cert.Scal

theorem mem7' (i : Fin 7) : i ∈ ([0, 1, 2, 3, 4, 5, 6] : List (Fin 7)) := by revert i; decide

/-! ### The weights -/

section weights

variable {X : Fin 2 → Fin 896 → Fin 256 → EReal} {K V : Fin 896 → Fin 256 → EReal}
variable {rx : Fin 7 → Fin 2 → FVec Ideal S1x128x256 .bf16} {rv : Fin 7 → FVec Ideal S1x128x256 .bf16}
  {rkc : Fin 7 → FVec Ideal S1x128x256 .fp8e4m3} {rkcol rvcol : Fin 7 → FVec Ideal S128x128 .f32}

/-- The head of a lane of the weights. -/
abbrev headOf (l : Fin 256) : Fin 2 := ⟨l.val / 128, by omega⟩
/-- The lane of a lane of the weights within its head. -/
abbrev laneOf (l : Fin 256) : Fin 128 := ⟨l.val % 128, by omega⟩

theorem headOf_lane (g : Fin 2) (b : Fin 128) : headOf (lane g b) = g := Fin.ext (by show (128 * g.val + b.val) / 128 = g.val; omega)
theorem laneOf_lane (g : Fin 2) (b : Fin 128) : laneOf (lane g b) = b := Fin.ext (by show (128 * g.val + b.val) % 128 = b.val; omega)

/-- Every store of one query tile's weights is one head's tile of one key tile. -/
theorem mem_down (i : Fin 7) : ∀ (n : ℕ) (h : n < 7) (p : View.Piece (Elt Ideal) S896x256 .f32),
    p ∈ pW.down rx rkc rkcol rvcol i n h → ∃ (g : Fin 2) (j : Fin 7), j.val ≤ n ∧ p = pW.one rx rkc rkcol rvcol i g j
  | 0, h, p, hp => by
    rw [pW.down, List.mem_cons, List.mem_singleton] at hp
    rcases hp with rfl | rfl
    · exact ⟨1, ⟨0, h⟩, le_refl 0, rfl⟩
    · exact ⟨0, ⟨0, h⟩, le_refl 0, rfl⟩
  | n + 1, h, p, hp => by
    rw [pW.down, List.mem_cons, List.mem_cons] at hp
    rcases hp with rfl | rfl | hp
    · exact ⟨1, ⟨n + 1, h⟩, le_refl _, rfl⟩
    · exact ⟨0, ⟨n + 1, h⟩, le_refl _, rfl⟩
    · obtain ⟨g, j, hj, e⟩ := mem_down i n _ p hp
      exact ⟨g, j, Nat.le_succ_of_le hj, e⟩

/-- and every such tile is stored. -/
theorem down_mem (i : Fin 7) (g : Fin 2) (j : Fin 7) : ∀ (n : ℕ) (h : n < 7), j.val ≤ n →
    pW.one rx rkc rkcol rvcol i g j ∈ pW.down rx rkc rkcol rvcol i n h
  | 0, h, hj => by
    have e : j = ⟨0, h⟩ := Fin.ext (Nat.le_zero.mp hj)
    rw [pW.down, List.mem_cons, List.mem_singleton, e]
    match g with
    | 0 => exact .inr rfl
    | 1 => exact .inl rfl
  | n + 1, h, hj => by
    rw [pW.down, List.mem_cons, List.mem_cons]
    rcases Nat.lt_or_eq_of_le hj with h1 | h1
    · exact .inr (.inr (down_mem i g j n _ (Nat.le_of_lt_succ h1)))
    · have e : j = ⟨n + 1, h⟩ := Fin.ext h1
      rw [e]
      match g with
      | 0 => exact .inr (.inl rfl)
      | 1 => exact .inl rfl

/-- The stores so far end with the query tile they have come to. -/
theorem pW_top : ∀ (n : ℕ) (h : n < 7) (i : Fin 7), i.val + n = 6 →
    ∃ L, pW rx rkc rkcol rvcol n h = pW.down rx rkc rkcol rvcol i i.val i.isLt ++ L
  | 0, _, i, hi => by
    have e : i = 6 := Fin.ext (by show i.val = 6; omega)
    exact ⟨[], by rw [e]; rfl⟩
  | n + 1, h, i, hi => by
    have e : i = ⟨5 - n, by omega⟩ := Fin.ext (by show i.val = 5 - n; omega)
    exact ⟨pW rx rkc rkcol rvcol n (Nat.lt_of_succ_lt h), by rw [e]; rfl⟩

/-- The weights a query tile reads back are its own. -/
theorem canon_pW (H : Reads X K V rx rv rkc rkcol rvcol) (n : ℕ) (h : n < 7) (i : Fin 7) (hi : i.val + n = 6) (g : Fin 2) (k : Fin (nk i)) (b : Fin 128) :
    View.canon (Val := Elt Ideal) (pW rx rkc rkcol rvcol n h) (ix2 (seen i k) (lane g b)) =
      kerW (expS (X g) K (row i b)) (rowSc V) (seen i k) := by
  obtain ⟨L, e⟩ := pW_top (rx := rx) (rkc := rkc) (rkcol := rkcol) (rvcol := rvcol) n h i hi
  rw [e]
  refine (View.canon_append_of_pieces (Val := Elt Ideal) (e := .f32)
    (fun y => kerW (expS (X (headOf (y 1))) K (row i (laneOf (y 1)))) (rowSc V) (y 0)) L _ (fun p hp x => ?_) _ ?_).trans ?_
  · obtain ⟨g, j, hj, rfl⟩ := mem_down i _ _ p hp
    change (rW j g).shape.Idx at x
    idx_vars x
    refine ((congrFun (shapeCast_self (wT rx rkc rkcol rvcol i g j) _) _).trans (wT_apply H i g j hj _ _)).trans (Eq.trans ?_
      (congrArg (fun y : S896x256.Idx => kerW (expS (X (headOf (y 1))) K (row i (laneOf (y 1)))) (rowSc V) (y 0)) (embW j g _ _)).symm)
    show _ = kerW (expS (X (headOf (lane g _))) K (row i (laneOf (lane g _)))) (rowSc V) (row j _)
    rw [headOf_lane, laneOf_lane]
  · obtain ⟨j, a, e, hj⟩ := row_split (seen i k)
    have hk := k.isLt
    refine ⟨_, down_mem i g j i.val i.isLt ?_, ?_⟩
    · rw [hj]
      show k.val / 128 ≤ i.val
      have : k.val < 128 * (i.val + 1) := hk
      omega
    · rw [← e, ← embW j g a b]; exact (rW j g).idx_mem _
  · show kerW (expS (X (headOf (lane g b))) K (row i (laneOf (lane g b)))) (rowSc V) (seen i k) = _
    rw [headOf_lane, laneOf_lane]

end weights

/-! ### The value scales, spread and normalised -/

theorem canon_pVcol (arg4 : Memref sig .tc .vmem S1x896x256 .bf16) (harg4 : arg4.IsWhole) (arg13 : Memref sig .tc .vmem S896x128 .f32)
    (x2 : Vec Ideal S1x896x256 .bf16) (j : Fin 7) (r l : Fin 128) :
    View.canon (Val := Elt Ideal) (pVcol arg4 harg4 arg13 x2) ((rCol j).emb (ix2 r l)) = rowSc (kRow x2) (row j r) * vnormS (rowSc (kRow x2)) := by
  refine (canon_rmw_once (F := Ideal) (e := .f32) arg13.view rCol _ (fun i j hij x hm => ?_) [0, 1, 2, 3, 4, 5, 6] _ (by decide) j (by revert j; decide) (ix2 r l)).trans ?_
  · idx_vars x
    obtain ⟨z, hz⟩ := (rCol j).exists_idx_of_mem hm
    change (rCol j).emb z = _ at hz
    idx_vars z
    rw [embCol, embCol] at hz
    have h0 := congrArg Fin.val (congrFun hz 0)
    refine hij (Fin.ext ?_)
    simp only [ix2, row] at h0
    change 128 * j.val + _ = 128 * i.val + _ at h0
    omega
  · refine (congrFun (shapeCast_self _ _) _).trans ?_
    show View.canon (Val := Elt Ideal) (pCol (lv arg4 harg4 x2)) ((rCol j).emb (ix2 r l)) *
      broadcastTo S128x128 (vnorm (lv arg4 harg4 x2)) Facts₀.broadcasts_S1x128_S128x128 (ix2 r l) = _
    rw [embCol, canon_pCol _ (kRow x2) (fun i a d => lv_apply arg4 harg4 x2 i 0 a d)]
    simp only [pointwise]
    refine congrArg (fun z : EReal => rowSc (kRow x2) (row j r) * z) ?_
    exact vnorm_apply (fun i a d => lv_apply arg4 harg4 x2 i 0 a d) l

section reads

variable (arg2 : Memref sig .tc .vmem S1x896x512 .bf16) (harg2 : arg2.IsWhole) (arg3 : Memref sig .tc .vmem S1x896x256 .bf16) (harg3 : arg3.IsWhole)
  (arg4 : Memref sig .tc .vmem S1x896x256 .bf16) (harg4 : arg4.IsWhole) (arg8 : Memref sig .tc .vmem S1x896x256 .fp8e4m3)
  (arg12 : Memref sig .tc .vmem S896x128 .f32) (arg13 : Memref sig .tc .vmem S896x128 .f32) (arg14 : Memref sig .tc .vmem S256x896 .fp8e4m3)
  (arg15 : Memref sig .tc .vmem S896x256 .f32)
  (x0 : Vec Ideal S1x896x512 .bf16) (x1 : Vec Ideal S1x896x256 .bf16) (x2 : Vec Ideal S1x896x256 .bf16)

/-- The loads read the rows of the program's blocks. -/
theorem reads : Reads (xRow x0) (kRow x1) (kRow x2) (lx arg2 harg2 x0) (lv arg4 harg4 x2) (lkc arg3 harg3 arg8 x1) (lkcol arg3 harg3 arg12 x1)
    (lvcol arg4 harg4 arg13 x2) where
  x i g r d := lx_apply arg2 harg2 x0 i g 0 r d
  v i r d := lv_apply arg4 harg4 x2 i 0 r d
  kc j r d := by
    rw [lkc, View.readCov_eq_canon']
    show View.canon (Val := Elt Ideal) _ ((rK j).emb (ix3 0 r d)) = _
    rw [embK]
    exact canon_pKc _ (kRow x1) (fun i a d => lk_apply arg3 harg3 x1 i 0 a d) _ d
  kcol j r l := by
    rw [lkcol, View.readCov_eq_canon']
    show View.canon (Val := Elt Ideal) _ ((rCol j).emb (ix2 r l)) = _
    rw [embCol]
    exact canon_pCol _ (kRow x1) (fun i a d => lk_apply arg3 harg3 x1 i 0 a d) _ l
  vcol j r l := by
    rw [lvcol, View.readCov_eq_canon']
    exact canon_pVcol arg4 harg4 arg13 x2 j r l

theorem lvt_apply (i : Fin 7) (d : Fin 256) (k : Fin (nk i)) : lvt arg4 harg4 arg14 x2 i (ix2 d k) = rowCo (kRow x2) (seen i k) d := by
  rw [lvt, View.readCov_eq_canon']
  show View.canon (Val := Elt Ideal) _ ((rVtTo i).emb (ix2 d k)) = _
  rw [embVtTo]
  exact canon_pVt _ (kRow x2) (fun i a d => lv_apply arg4 harg4 x2 i 0 a d) _ d

theorem lw_apply (i : Fin 7) (g : Fin 2) (k : Fin (nk i)) (b : Fin 128) :
    lw arg2 harg2 arg3 harg3 arg4 harg4 arg8 arg12 arg13 arg15 x0 x1 x2 i g (ix2 k b) =
      kerW (expS (xRow x0 g) (kRow x1) (row i b)) (rowSc (kRow x2)) (seen i k) := by
  rw [lw, View.readCov_eq_canon']
  show View.canon (Val := Elt Ideal) _ ((rWTo i g).emb (ix2 k b)) = _
  rw [embWTo]
  exact canon_pW (reads arg2 harg2 arg3 harg3 arg4 harg4 arg8 arg12 arg13 x0 x1 x2) _ _ i (by omega) g k b

/-- A place of the query block, by tile and head. -/
theorem x_split (q : Fin 896) (d : Fin 512) : ∃ (i : Fin 7) (g : Fin 2) (r : Fin 128) (e : Fin 256),
    (rX i g).emb (ix3 0 r e) = ix3 0 q d ∧ row i r = q ∧ g.val = d.val / 256 ∧ e.val = d.val % 256 := by
  obtain ⟨i, r, e, -⟩ := row_split q
  refine ⟨i, ⟨d.val / 256, by omega⟩, r, ⟨d.val % 256, by omega⟩, ?_, e, rfl, rfl⟩
  rw [embX, e]
  refine congrArg (ix3 0 q) (Fin.ext ?_)
  show 256 * (d.val / 256) + d.val % 256 = d.val
  omega

/-- The head of a place of the query block. -/
abbrev headX (d : Fin 512) : Fin 2 := ⟨d.val / 256, by omega⟩
/-- The place within its head. -/
abbrev inX (d : Fin 512) : Fin 256 := ⟨d.val % 256, by omega⟩

/-- Tiles stored one head above the other leave one function. -/
theorem canon_heads {e : EltTy} (w : Fin 7 → Fin 2 → (S1x128x256.Idx → Elt Ideal e)) (G : Fin 2 → Fin 896 → Fin 256 → Elt Ideal e)
    (hw : ∀ i g a r d, w i g (ix3 a r d) = G g (row i r) d) (q : Fin 896) (d : Fin 512) :
    View.canon (Val := Elt Ideal) (([0, 1, 2, 3, 4, 5, 6] : List (Fin 7)).flatMap fun i =>
      [(⟨rX i 1, w i 1⟩ : View.Piece (Elt Ideal) S1x896x512 e), ⟨rX i 0, w i 0⟩]) (ix3 0 q d) = G (headX d) q (inX d) := by
  refine View.canon_apply_of_pieces (Val := Elt Ideal) (fun y : S1x896x512.Idx => G (headX (y 2)) (y 1) (inX (y 2))) _ (fun p hp x => ?_) _ ?_
  · have : ∃ i g, p = (⟨rX i g, w i g⟩ : View.Piece (Elt Ideal) S1x896x512 e) := by
      obtain ⟨i, -, h⟩ := List.mem_flatMap.mp hp
      rw [List.mem_cons, List.mem_singleton] at h
      rcases h with h | h
      · exact ⟨i, 1, h⟩
      · exact ⟨i, 0, h⟩
    obtain ⟨i, g, rfl⟩ := this
    change S1x128x256.Idx at x
    obtain ⟨a, r, d', rfl⟩ : ∃ (a : Fin 1) (r : Fin 128) (d' : Fin 256), x = ix3 a r d' := ⟨x 0, x 1, x 2, ValueIdx.eq_ix3 x⟩
    have h1 : headX (⟨256 * g.val + d'.val, by omega⟩ : Fin 512) = g := Fin.ext (by show (256 * g.val + d'.val) / 256 = g.val; omega)
    have h2 : inX (⟨256 * g.val + d'.val, by omega⟩ : Fin 512) = d' := Fin.ext (by show (256 * g.val + d'.val) % 256 = d'.val; omega)
    refine (hw i g _ _ _).trans (Eq.trans ?_ (congrArg (fun y : S1x896x512.Idx => G (headX (y 2)) (y 1) (inX (y 2))) (embX i g a r d')).symm)
    show _ = G (headX (⟨256 * g.val + d'.val, by omega⟩ : Fin 512)) (row i r) (inX (⟨256 * g.val + d'.val, by omega⟩ : Fin 512))
    rw [h1, h2]
  · obtain ⟨i, g, r, e', h, -⟩ := x_split q d
    refine ⟨⟨rX i g, w i g⟩, List.mem_flatMap.mpr ⟨i, mem7' i, ?_⟩, by rw [← h]; exact (rX i g).idx_mem _⟩
    match g with
    | 0 => exact List.mem_cons_of_mem _ List.mem_cons_self
    | 1 => exact List.mem_cons_self

/-- The query codes. -/
theorem canon_pQc (q : Fin 896) (d : Fin 512) :
    View.canon (Val := Elt Ideal) (pQc (lx arg2 harg2 x0)) (ix3 0 q d) = rowCo (xRow x0 (headX d)) q (inX d) :=
  canon_heads (e := .fp8e4m3) (fun i g => unmat (codes8 (mat (lx arg2 harg2 x0 i g)))) (fun g q d => rowCo (xRow x0 g) q d) (fun i g a r d => by
    rw [unmat_apply]
    exact codes8_row _ _ _ (fun d => lx_apply arg2 harg2 x0 i g 0 r d) d) q d

/-- The result's stores leave the attention's rows. -/
theorem canon_pOut {X : Fin 2 → Fin 896 → Fin 256 → EReal} {K V : Fin 896 → Fin 256 → EReal}
    {rx : Fin 7 → Fin 2 → FVec Ideal S1x128x256 .bf16} {rv : Fin 7 → FVec Ideal S1x128x256 .bf16}
    {rkc : Fin 7 → FVec Ideal S1x128x256 .fp8e4m3} {rkcol rvcol : Fin 7 → FVec Ideal S128x128 .f32}
    (H : Reads X K V rx rv rkc rkcol rvcol) (hV : 0 ≤ rowSc V 0 * vnormS (rowSc V))
    (rvt : (i : Fin 7) → FVec Ideal ⟨2, ![256, nk i]⟩ .fp8e4m3) (rw_ : (i : Fin 7) → Fin 2 → FVec Ideal ⟨2, ![nk i, 128]⟩ .f32)
    (hvt : ∀ i d k, rvt i (ix2 d k) = rowCo V (seen i k) d)
    (hw : ∀ i g k b, rw_ i g (ix2 k b) = kerW (expS (X g) K (row i b)) (rowSc V) (seen i k)) (q : Fin 896) (d : Fin 512) :
    View.canon (Val := Elt Ideal) (pOut rx rv rkc rkcol rvcol rvt rw_) (ix3 0 q d) = outS (X (headX d)) K V q (inX d) := by
  unfold pOut
  refine canon_heads (e := .bf16) (fun i g => outT rx rv rkc rkcol rvcol rvt rw_ i g) (fun g q d => outS (X g) K V q d) (fun i g a r d => ?_) q d
  rw [show a = 0 from Fin.ext (by omega)]
  exact outT_apply H hV rvt rw_ hvt hw i g r d

/-- The result. -/
theorem canon_pOuts (hV : 0 ≤ rowSc (kRow x2) 0 * vnormS (rowSc (kRow x2))) (q : Fin 896) (d : Fin 512) :
    View.canon (Val := Elt Ideal) (pOuts arg2 harg2 arg3 harg3 arg4 harg4 arg8 arg12 arg13 arg14 arg15 x0 x1 x2) (ix3 0 q d) =
      outS (xRow x0 (headX d)) (kRow x1) (kRow x2) q (inX d) :=
  canon_pOut (reads arg2 harg2 arg3 harg3 arg4 harg4 arg8 arg12 arg13 x0 x1 x2) hV _ _
    (lvt_apply arg4 harg4 arg14 x2) (lw_apply arg2 harg2 arg3 harg3 arg4 harg4 arg8 arg12 arg13 arg15 x0 x1 x2) q d

end reads

end Cert.KernelIdeal.Vocab
-- ==== Proof.Cols.lean ====
/- What the kernel's stores leave in its three results of scales, a column a program. -/
module

public import proofs.«01_k».proof.Proof.Loads

@[expose] public section

set_option maxRecDepth 16384

noncomputable section

namespace Cert.KernelIdeal.Vocab

open Idealize.ShloMosaic Idealize.ShloMosaic.TcCoe
open Cert.KernelIdeal.Gen
open Cert.Scal

theorem ofNat_eq_iff (a b : ℕ) (ha : a < 2 ^ 32) (hb : b < 2 ^ 32) : BitVec.ofNat 32 a = BitVec.ofNat 32 b ↔ a = b := by
  constructor
  · intro h
    have h' := congrArg BitVec.toNat h
    rwa [BitVec.toNat_ofNat, BitVec.toNat_ofNat, Nat.mod_eq_of_lt ha, Nat.mod_eq_of_lt hb] at h'
  · rintro rfl; rfl

/-- The number of a head's column. -/
theorem headWord_eq (kv : ℕ) (g : Fin 2) : headWord (BitVec.ofNat 32 kv) g = BitVec.ofNat 32 (2 * kv + g.val) := by
  apply BitVec.eq_of_toNat_eq
  show ((BitVec.ofNat 32 kv * 2#32) + BitVec.ofNat 32 g.val).toNat = _
  rw [BitVec.toNat_add, BitVec.toNat_mul, BitVec.toNat_ofNat, BitVec.toNat_ofNat, BitVec.toNat_ofNat, BitVec.toNat_ofNat]
  omega

/-- The head, within its pair, of a column of the query scales. -/
abbrev colHead (c : Fin 8) : Fin 2 := ⟨c.val % 2, by omega⟩

variable (i : grid0.Coords) (hkv : (i 1).val < 4)

include hkv in
theorem hit8 (g : Fin 2) (c : Fin 8) : BitVec.ofNat 32 c.val = headWord (BitVec.ofNat 32 (i 1).val) g ↔ c.val / 2 = (i 1).val ∧ colHead c = g := by
  rw [headWord_eq, ofNat_eq_iff _ _ (by omega) (by omega)]
  constructor
  · intro h; exact ⟨by omega, Fin.ext (by show c.val % 2 = g.val; omega)⟩
  · rintro ⟨h1, h2⟩
    have h3 : c.val % 2 = g.val := congrArg Fin.val h2
    omega

include hkv in
theorem hit4 (c : Fin 4) : BitVec.ofNat 32 c.val = BitVec.ofNat 32 (i 1).val ↔ c.val = (i 1).val :=
  ofNat_eq_iff _ _ (by omega) (by omega)

theorem mem_rQs (t : Fin 7) (q : Fin 896) (c : Fin 8) : ix3 0 q c ∈ (rQs t).set ↔ ∃ r, row t r = q := by
  constructor
  · intro h
    obtain ⟨z, hz⟩ := (rQs t).exists_idx_of_mem h
    change (rQs t).emb z = _ at hz
    change S1x128x8.Idx at z
    obtain ⟨a, r, d, rfl⟩ : ∃ (a : Fin 1) (r : Fin 128) (d : Fin 8), z = ix3 a r d := ⟨z 0, z 1, z 2, ValueIdx.eq_ix3 z⟩
    exact ⟨r, congrFun ((embQs t a r d).symm.trans hz) 1⟩
  · rintro ⟨r, rfl⟩
    rw [← embQs t 0 r c]
    exact (rQs t).idx_mem _

theorem mem_rKs (t : Fin 7) (q : Fin 896) (c : Fin 4) : ix3 0 q c ∈ (rKs t).set ↔ ∃ r, row t r = q := by
  constructor
  · intro h
    obtain ⟨z, hz⟩ := (rKs t).exists_idx_of_mem h
    change (rKs t).emb z = _ at hz
    change S1x128x4.Idx at z
    obtain ⟨a, r, d, rfl⟩ : ∃ (a : Fin 1) (r : Fin 128) (d : Fin 4), z = ix3 a r d := ⟨z 0, z 1, z 2, ValueIdx.eq_ix3 z⟩
    exact ⟨r, congrFun ((embKs t a r d).symm.trans hz) 1⟩
  · rintro ⟨r, rfl⟩
    rw [← embKs t 0 r c]
    exact (rKs t).idx_mem _

section qs

variable (arg2 : Memref sig .tc .vmem S1x896x512 .bf16) (harg2 : arg2.IsWhole) (arg7 : Memref sig .tc .vmem S1x896x8 .f32)
  (x0 : Vec Ideal S1x896x512 .bf16)

/-- One store of a column of query scales over contents. -/
theorem setQ (t : Fin 7) (g : Fin 2) (old : (rQs t).shape.Idx → EReal) (O : S1x896x8.Idx → EReal) (ho : ∀ x, old x = O ((rQs t).emb x)) (x : (rQs t).shape.Idx) :
    setCol8 (F := Ideal) (headWord (BitVec.ofNat 32 (i 1).val) g) (rowScale (mat (lx arg2 harg2 x0 t g))) old x =
      if BitVec.ofNat 32 (((rQs t).emb x) 2).val = headWord (BitVec.ofNat 32 (i 1).val) g then rowSc (xRow x0 g) (((rQs t).emb x) 1) else O ((rQs t).emb x) := by
  change S1x128x8.Idx at x
  obtain ⟨a, r, d, rfl⟩ : ∃ (a : Fin 1) (r : Fin 128) (d : Fin 8), x = ix3 a r d := ⟨x 0, x 1, x 2, ValueIdx.eq_ix3 x⟩
  refine (setCol8_apply _ _ _ a r d).trans ?_
  have e := embQs t a r d
  have e' := embQs t 0 r d
  have h1 : ((rQs t).emb (ix3 a r d)) 2 = d := congrFun e 2
  have h2 : ((rQs t).emb (ix3 a r d)) 1 = row t r := congrFun e 1
  have h3 : old (ix3 0 r d) = O ((rQs t).emb (ix3 a r d)) := (ho _).trans (congrArg O (e'.trans e.symm))
  have h4 : rowScale (mat (lx arg2 harg2 x0 t g)) (ix2 r ⟨d.val, by omega⟩) = rowSc (xRow x0 g) (row t r) :=
    scale_row _ (xRow x0 g (row t r)) r (fun d => lx_apply arg2 harg2 x0 t g 0 r d) _
  exact if_congr (by rw [h1]) (h4.trans (congrArg (rowSc (xRow x0 g)) h2.symm)) h3

include hkv in
/-- The query scales' columns of this program, over earlier stores. -/
theorem canon_pQs (L : List (View.Piece (Elt Ideal) S1x896x8 .f32)) (q : Fin 896) (c : Fin 8) :
    View.canon (Val := Elt Ideal) (pQs i arg2 harg2 arg7 x0 L) (ix3 0 q c) =
      if c.val / 2 = (i 1).val then rowSc (xRow x0 (colHead c)) q else View.canon (Val := Elt Ideal) L (ix3 0 q c) := by
  classical
  refine (canon_rmw_set (F := Ideal) (e := .f32) arg7.view (fun p : Fin 7 × Fin 2 => rQs p.1) _
    (fun p y => BitVec.ofNat 32 (y 2).val = headWord (BitVec.ofNat 32 (i 1).val) p.2) (fun y => rowSc (xRow x0 (colHead (y 2))) (y 1))
    (fun p h x => ?_) (ix3 0 q c) _ L).trans ?_
  · refine (setQ i arg2 harg2 x0 p.1 p.2 _ h (fun _ => rfl) x).trans ?_
    refine if_ctx_congr Iff.rfl (fun hh => ?_) (fun _ => rfl)
    have := ((hit8 i hkv p.2 _).mp hh).2
    show _ = rowSc (xRow x0 (colHead (((rQs p.1).emb x) 2))) _
    rw [this]
  · refine if_congr ?_ rfl rfl
    constructor
    · rintro ⟨p, -, -, h⟩
      exact ((hit8 i hkv p.2 c).mp h).1
    · intro h
      obtain ⟨t, r, e, -⟩ := row_split q
      exact ⟨(t, colHead c), (by decide : ∀ p : Fin 7 × Fin 2, p ∈ ([(6, 0), (6, 1), (5, 0), (5, 1), (4, 0), (4, 1), (3, 0), (3, 1), (2, 0), (2, 1), (1, 0), (1, 1), (0, 0), (0, 1)] : List (Fin 7 × Fin 2))) _,
        (mem_rQs t q c).mpr ⟨r, e⟩, (hit8 i hkv (colHead c) c).mpr ⟨h, rfl⟩⟩

/-- What one store of a column of query scales puts at the row of the tile. -/
def stQ (t : Fin 7) (g : Fin 2) (old : (rQs t).shape.Idx → EReal) : View.Piece (Elt Ideal) S1x896x8 .f32 :=
  ⟨rQs t, setCol8 (F := Ideal) (headWord (BitVec.ofNat 32 (i 1).val) g) (rowScale (mat (lx arg2 harg2 x0 t g))) old⟩

include hkv in
theorem canon_stQ (t : Fin 7) (r : Fin 128) (c : Fin 8) (g : Fin 2) (old : (rQs t).shape.Idx → EReal) (O : S1x896x8.Idx → EReal)
    (ho : ∀ x, old x = O ((rQs t).emb x)) (L : List (View.Piece (Elt Ideal) S1x896x8 .f32)) :
    View.canon (Val := Elt Ideal) (stQ i arg2 harg2 x0 t g old :: L) (ix3 0 (row t r) c) =
      if c.val / 2 = (i 1).val ∧ colHead c = g then rowSc (xRow x0 g) (row t r) else O (ix3 0 (row t r) c) := by
  have e := embQs t 0 r c
  rw [← e]
  refine (View.canon_cons_emb (Val := Elt Ideal) (rQs t) _ L (ix3 0 r c)).trans ((setQ i arg2 harg2 x0 t g old O ho (ix3 0 r c)).trans ?_)
  have h1 : ((rQs t).emb (ix3 0 r c)) 2 = c := congrFun e 2
  have h2 : ((rQs t).emb (ix3 0 r c)) 1 = row t r := congrFun e 1
  exact if_congr ((by rw [h1] : _ ↔ _).trans (hit8 i hkv g c)) (congrArg _ h2) rfl

/-- One tile's two stores, over what was there. -/
theorem pQsB_cons (rd : (t : Fin 7) → (rQs t).shape.Idx → EReal) (t : Fin 7) (l : List (Fin 7)) (L : List (View.Piece (Elt Ideal) S1x896x8 .f32)) :
    pQsB (F := Ideal) i arg2 harg2 arg7 x0 rd (t :: l) L =
      pQsB (F := Ideal) i arg2 harg2 arg7 x0 rd l (stQ i arg2 harg2 x0 t 1 (arg7.view.readCov (stQ i arg2 harg2 x0 t 0 (rd t) :: L) (rQs t).toLoadRect) ::
        stQ i arg2 harg2 x0 t 0 (rd t) :: L) := rfl

include hkv in
theorem canon_two (t : Fin 7) (rd : (rQs t).shape.Idx → EReal) (O : S1x896x8.Idx → EReal) (hrd : ∀ x, rd x = O ((rQs t).emb x)) (r : Fin 128) (c : Fin 8)
    (L : List (View.Piece (Elt Ideal) S1x896x8 .f32)) :
    View.canon (Val := Elt Ideal) (stQ i arg2 harg2 x0 t 1 (arg7.view.readCov (stQ i arg2 harg2 x0 t 0 rd :: L) (rQs t).toLoadRect) ::
        stQ i arg2 harg2 x0 t 0 rd :: L) (ix3 0 (row t r) c) =
      if c.val / 2 = (i 1).val then rowSc (xRow x0 (colHead c)) (row t r) else O (ix3 0 (row t r) c) := by
  refine (canon_stQ i hkv arg2 harg2 x0 t r c 1 _ _ (fun x => congrFun (View.readCov_eq_canon' (Val := Elt Ideal) arg7.view _ _) x) _).trans ?_
  rw [canon_stQ i hkv arg2 harg2 x0 t r c 0 rd O hrd L]
  have : colHead c = 0 ∨ colHead c = 1 := (by decide : ∀ g : Fin 2, g = 0 ∨ g = 1) _
  by_cases hc : c.val / 2 = (i 1).val
  · rcases this with hg | hg
    · rw [if_neg (by rw [hg]; simp), if_pos ⟨hc, hg⟩, if_pos hc, hg]
    · rw [if_pos ⟨hc, hg⟩, if_pos hc, hg]
  · rw [if_neg (fun h => hc h.1), if_neg (fun h => hc h.1), if_neg hc]

include hkv in
/-- The query scales' columns of this program, over what was there. -/
theorem canon_pQsB (rd : (t : Fin 7) → (rQs t).shape.Idx → EReal) (O : S1x896x8.Idx → EReal) (hrd : ∀ t x, rd t x = O ((rQs t).emb x)) (q : Fin 896) (c : Fin 8)
    (l : List (Fin 7)) : ∀ (L : List (View.Piece (Elt Ideal) S1x896x8 .f32)), ((∃ t ∈ l, ∃ r, row t r = q) ∨
        View.canon (Val := Elt Ideal) L (ix3 0 q c) = if c.val / 2 = (i 1).val then rowSc (xRow x0 (colHead c)) q else O (ix3 0 q c)) →
      View.canon (Val := Elt Ideal) (pQsB (F := Ideal) i arg2 harg2 arg7 x0 rd l L) (ix3 0 q c) =
        if c.val / 2 = (i 1).val then rowSc (xRow x0 (colHead c)) q else O (ix3 0 q c) := by
  induction l with
  | nil =>
    intro L h
    rcases h with ⟨t, ht, -⟩ | h
    · exact absurd ht List.not_mem_nil
    · exact h
  | cons t l ih =>
    intro L h
    rw [pQsB_cons]
    refine ih _ ?_
    by_cases hq : ∃ r, row t r = q
    · right
      obtain ⟨r, rfl⟩ := hq
      exact canon_two i hkv arg2 harg2 arg7 x0 t (rd t) O (hrd t) r c L
    · rcases h with ⟨t', ht', r, hr⟩ | h
      · rcases List.mem_cons.mp ht' with rfl | hl
        · exact absurd ⟨r, hr⟩ hq
        · exact .inl ⟨t', hl, r, hr⟩
      · right
        have hn : ix3 0 q c ∉ (rQs t).set := fun hm => hq ((mem_rQs t q c).mp hm)
        refine (View.canon_cons_of_not_mem (Val := Elt Ideal) (stQ i arg2 harg2 x0 t 1 _) _ hn).trans ?_
        exact (View.canon_cons_of_not_mem (Val := Elt Ideal) (stQ i arg2 harg2 x0 t 0 (rd t)) L hn).trans h

end qs

section ks

variable (r : Fin 7 → FVec Ideal S1x128x256 .bf16) (T : Fin 896 → Fin 256 → EReal) (hr : ∀ i a d, r i (ix3 0 a d) = T (row i a) d)

include hr in
/-- One store of a column of key or value scales over contents. -/
theorem setK (t : Fin 7) (old : (rKs t).shape.Idx → EReal) (O : S1x896x4.Idx → EReal) (ho : ∀ x, old x = O ((rKs t).emb x)) (x : (rKs t).shape.Idx) :
    setCol4 (F := Ideal) (BitVec.ofNat 32 (i 1).val) (rowScale (mat (r t))) old x =
      if BitVec.ofNat 32 (((rKs t).emb x) 2).val = BitVec.ofNat 32 (i 1).val then rowSc T (((rKs t).emb x) 1) else O ((rKs t).emb x) := by
  change S1x128x4.Idx at x
  obtain ⟨a, b, d, rfl⟩ : ∃ (a : Fin 1) (b : Fin 128) (d : Fin 4), x = ix3 a b d := ⟨x 0, x 1, x 2, ValueIdx.eq_ix3 x⟩
  refine (setCol4_apply _ _ _ a b d).trans ?_
  have e := embKs t a b d
  have e' := embKs t 0 b d
  have h1 : ((rKs t).emb (ix3 a b d)) 2 = d := congrFun e 2
  have h2 : ((rKs t).emb (ix3 a b d)) 1 = row t b := congrFun e 1
  have h3 : old (ix3 0 b d) = O ((rKs t).emb (ix3 a b d)) := (ho _).trans (congrArg O (e'.trans e.symm))
  have h4 : rowScale (mat (r t)) (ix2 b ⟨d.val, by omega⟩) = rowSc T (row t b) := scale_row _ (T (row t b)) b (fun d => hr t b d) _
  exact if_congr (by rw [h1]) (h4.trans (congrArg (rowSc T) h2.symm)) h3

include hkv hr in
/-- The key or value scales' column of this program, over earlier stores. -/
theorem canon_pKs (v : View sig .tc .vmem S1x896x4 .f32) (L : List (View.Piece (Elt Ideal) S1x896x4 .f32)) (q : Fin 896) (c : Fin 4) :
    View.canon (Val := Elt Ideal) (pKs i v r L) (ix3 0 q c) =
      if c.val = (i 1).val then rowSc T q else View.canon (Val := Elt Ideal) L (ix3 0 q c) := by
  classical
  refine (canon_rmw_set (F := Ideal) (e := .f32) v rKs _
    (fun _ y => BitVec.ofNat 32 (y 2).val = BitVec.ofNat 32 (i 1).val) (fun y => rowSc T (y 1))
    (fun t h x => setK i r T hr t _ h (fun _ => rfl) x) (ix3 0 q c) _ L).trans ?_
  refine if_congr ?_ rfl rfl
  constructor
  · rintro ⟨p, -, -, h⟩
    exact (hit4 i hkv c).mp h
  · intro h
    obtain ⟨t, b, e, -⟩ := row_split q
    exact ⟨t, (by decide : ∀ t : Fin 7, t ∈ ([0, 1, 2, 3, 4, 5, 6] : List (Fin 7))) t, (mem_rKs t q c).mpr ⟨b, e⟩, (hit4 i hkv c).mpr h⟩

include hkv hr in
/-- The key or value scales' column of this program, over what was there. -/
theorem canon_pKsB (rd : (t : Fin 7) → (rKs t).shape.Idx → EReal) (O : S1x896x4.Idx → EReal) (hrd : ∀ t x, rd t x = O ((rKs t).emb x)) (q : Fin 896) (c : Fin 4) :
    View.canon (Val := Elt Ideal) (pKsB (F := Ideal) i rd r) (ix3 0 q c) = if c.val = (i 1).val then rowSc T q else O (ix3 0 q c) := by
  refine (canon_map (F := Ideal) (e := .f32) rKs (fun t => setCol4 (F := Ideal) (BitVec.ofNat 32 (i 1).val) (rowScale (mat (r t))) (rd t))
    (fun y => if BitVec.ofNat 32 (y 2).val = BitVec.ofNat 32 (i 1).val then rowSc T (y 1) else O y) _
    (fun t _ x => setK i r T hr t _ O (hrd t) x) _ ?_).trans (if_congr (hit4 i hkv c) rfl rfl)
  obtain ⟨t, b, e, -⟩ := row_split q
  exact ⟨t, mem7 t, (mem_rKs t q c).mpr ⟨b, e⟩⟩

end ks

/-- The whole-block zero stores leave zero. -/
theorem canon_pZero8 (y : S1x896x8.Idx) : View.canon (Val := Elt Ideal) (pZero8 (F := Ideal)) y = 0 := by
  refine View.canon_apply_of_pieces (Val := Elt Ideal) (e := .f32) (fun _ => (0 : EReal)) _ (fun p hp x => ?_) y ?_
  · rw [List.mem_singleton] at hp
    subst hp
    exact Cert.Consts.zero
  · refine ⟨_, List.mem_singleton.mpr rfl, ?_⟩
    have e : (Rect.unit ![0, 0, 0] S1x896x8.size Facts₀.inb_S1x896x8_S1x896x8_0_0_0).emb y = y := by
      funext b; apply Fin.ext
      refine (ValueKit.rect_emb_unit_val _ _ _ _ _).trans ?_
      match b with
      | 0 => exact Nat.zero_add _
      | 1 => exact Nat.zero_add _
      | 2 => exact Nat.zero_add _
    have := (Rect.unit ![0, 0, 0] S1x896x8.size Facts₀.inb_S1x896x8_S1x896x8_0_0_0).idx_mem y
    exact e ▸ this

/-- The whole-block zero stores leave zero. -/
theorem canon_pZero4 (y : S1x896x4.Idx) : View.canon (Val := Elt Ideal) (pZero4 (F := Ideal)) y = 0 := by
  refine View.canon_apply_of_pieces (Val := Elt Ideal) (e := .f32) (fun _ => (0 : EReal)) _ (fun p hp x => ?_) y ?_
  · rw [List.mem_singleton] at hp
    subst hp
    exact Cert.Consts.zero
  · refine ⟨_, List.mem_singleton.mpr rfl, ?_⟩
    have e : (Rect.unit ![0, 0, 0] S1x896x4.size Facts₀.inb_S1x896x4_S1x896x4_0_0_0).emb y = y := by
      funext b; apply Fin.ext
      refine (ValueKit.rect_emb_unit_val _ _ _ _ _).trans ?_
      match b with
      | 0 => exact Nat.zero_add _
      | 1 => exact Nat.zero_add _
      | 2 => exact Nat.zero_add _
    have := (Rect.unit ![0, 0, 0] S1x896x4.size Facts₀.inb_S1x896x4_S1x896x4_0_0_0).idx_mem y
    exact e ▸ this

end Cert.KernelIdeal.Vocab
-- ==== Proof.PiecesB.lean ====
/- The stores of the body, as the tiles' functions, at the later key-value heads. -/
module

public import proofs.«01_k».proof.Proof.PiecesA

@[expose] public section

set_option maxRecDepth 16384

noncomputable section

namespace Cert.KernelIdeal.Vocab

open Idealize.ShloMosaic Idealize.ShloMosaic.TcCoe
open Cert.KernelIdeal.Gen

variable {F : FTy → Type} [FloatOps F] [Named F]
variable (c : Dev nD) (i : grid0.Coords) (arg2 : Memref sig .tc .vmem S1x896x512 .bf16) (harg2 : arg2.IsWhole) (arg3 : Memref sig .tc .vmem S1x896x256 .bf16) (harg3 : arg3.IsWhole) (arg4 : Memref sig .tc .vmem S1x896x256 .bf16) (harg4 : arg4.IsWhole) (arg5 : Memref sig .tc .vmem S1x896x512 .bf16) (harg5 : arg5.IsWhole) (arg6 : Memref sig .tc .vmem S1x896x512 .fp8e4m3) (harg6 : arg6.IsWhole) (arg7 : Memref sig .tc .vmem S1x896x8 .f32) (harg7 : arg7.IsWhole) (arg8 : Memref sig .tc .vmem S1x896x256 .fp8e4m3) (harg8 : arg8.IsWhole) (arg9 : Memref sig .tc .vmem S1x896x4 .f32) (harg9 : arg9.IsWhole) (arg10 : Memref sig .tc .vmem S1x896x256 .fp8e4m3) (harg10 : arg10.IsWhole) (arg11 : Memref sig .tc .vmem S1x896x4 .f32) (harg11 : arg11.IsWhole) (arg12 : Memref sig .tc .vmem S896x128 .f32) (harg12 : arg12.IsWhole) (arg13 : Memref sig .tc .vmem S896x128 .f32) (harg13 : arg13.IsWhole) (arg14 : Memref sig .tc .vmem S256x896 .fp8e4m3) (harg14 : arg14.IsWhole) (arg15 : Memref sig .tc .vmem S896x256 .f32) (harg15 : arg15.IsWhole) (hc0 : ¬ cond0_0 i)
  (x0 : Vec F S1x896x512 .bf16) (x1 : Vec F S1x896x256 .bf16) (x2 : Vec F S1x896x256 .bf16) (xo5 : Vec F S1x896x8 .f32) (xo7 : Vec F S1x896x4 .f32) (xo9 : Vec F S1x896x4 .f32)

/-- The result's stores. -/
theorem B_out : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9).1 = pOuts arg2 harg2 arg3 harg3 arg4 harg4 arg8 arg12 arg13 arg14 arg15 x0 x1 x2 := by
  with_unfolding_all rfl
/-- The query codes' stores. -/
theorem B_qc : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9).2.1 = pQc (lx arg2 harg2 x0) := by
  with_unfolding_all rfl
/-- The query scales' stores. -/
theorem B_qs : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9).2.2.1 = pQsB i arg2 harg2 arg7 x0 (fun t => View.readAt (Elt F) arg7.view (rQs t).toLoadRect (harg7.unread xo5)) [6, 5, 4, 3, 2, 1, 0] [] := by
  with_unfolding_all rfl
/-- The key codes' stores. -/
theorem B_kc : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9).2.2.2.1 = pKc (lk arg3 harg3 x1) := by
  with_unfolding_all rfl
/-- The key scales' stores. -/
theorem B_ks : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9).2.2.2.2.1 = pKsB i (fun t => View.readAt (Elt F) arg9.view (rKs t).toLoadRect (harg9.unread xo7)) (lk arg3 harg3 x1) := by
  with_unfolding_all rfl
/-- The value codes' stores. -/
theorem B_vc : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9).2.2.2.2.2.1 = pKc (lv arg4 harg4 x2) := by
  with_unfolding_all rfl
/-- The value scales' stores. -/
theorem B_vs : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9).2.2.2.2.2.2.1 = pKsB i (fun t => View.readAt (Elt F) arg11.view (rKs t).toLoadRect (harg11.unread xo9)) (lv arg4 harg4 x2) := by
  with_unfolding_all rfl

end Cert.KernelIdeal.Vocab
-- ==== Proof.Outs.lean ====
/- What each program leaves in its result blocks, at an index. -/
module

public import proofs.«01_k».proof.Proof.Body
public import proofs.«01_k».proof.Proof.Cols
public import proofs.«01_k».proof.Proof.PiecesB
public import proofs.«01_k».proof.Proof.Gen.KernelIdeal.Value

@[expose] public section

set_option maxRecDepth 16384

noncomputable section

namespace Cert.KernelIdeal.Vocab

open Idealize.ShloMosaic Idealize.ShloMosaic.TcCoe
open Cert.KernelIdeal.Gen
open Cert.Scal

variable (c : Dev nD) (i : grid0.Coords) (arg2 : Memref sig .tc .vmem S1x896x512 .bf16) (harg2 : arg2.IsWhole) (arg3 : Memref sig .tc .vmem S1x896x256 .bf16) (harg3 : arg3.IsWhole) (arg4 : Memref sig .tc .vmem S1x896x256 .bf16) (harg4 : arg4.IsWhole) (arg5 : Memref sig .tc .vmem S1x896x512 .bf16) (harg5 : arg5.IsWhole) (arg6 : Memref sig .tc .vmem S1x896x512 .fp8e4m3) (harg6 : arg6.IsWhole) (arg7 : Memref sig .tc .vmem S1x896x8 .f32) (harg7 : arg7.IsWhole) (arg8 : Memref sig .tc .vmem S1x896x256 .fp8e4m3) (harg8 : arg8.IsWhole) (arg9 : Memref sig .tc .vmem S1x896x4 .f32) (harg9 : arg9.IsWhole) (arg10 : Memref sig .tc .vmem S1x896x256 .fp8e4m3) (harg10 : arg10.IsWhole) (arg11 : Memref sig .tc .vmem S1x896x4 .f32) (harg11 : arg11.IsWhole) (arg12 : Memref sig .tc .vmem S896x128 .f32) (harg12 : arg12.IsWhole) (arg13 : Memref sig .tc .vmem S896x128 .f32) (harg13 : arg13.IsWhole) (arg14 : Memref sig .tc .vmem S256x896 .fp8e4m3) (harg14 : arg14.IsWhole) (arg15 : Memref sig .tc .vmem S896x256 .f32) (harg15 : arg15.IsWhole)
  (x0 : Vec Ideal S1x896x512 .bf16) (x1 : Vec Ideal S1x896x256 .bf16) (x2 : Vec Ideal S1x896x256 .bf16)
  (xo5 : Vec Ideal S1x896x8 .f32) (xo7 : Vec Ideal S1x896x4 .f32) (xo9 : Vec Ideal S1x896x4 .f32)

section caseA

variable (hc0 : cond0_0 i)

/-- The result at the first key-value head. -/
theorem A_out_apply (hV : 0 ≤ rowSc (kRow x2) 0 * vnormS (rowSc (kRow x2))) (q : Fin 896) (d : Fin 512) :
    out0_A_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 (ix3 0 q d) = outS (xRow x0 (headX d)) (kRow x1) (kRow x2) q (inX d) := by
  unfold out0_A_3
  refine (congrFun (View.read_writes_eq_canon (Val := Elt Ideal) _ _ _ (cover0_A_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)) _).trans ?_
  rw [A_out]
  exact canon_pOuts arg2 harg2 arg3 harg3 arg4 harg4 arg8 arg12 arg13 arg14 arg15 x0 x1 x2 hV q d

/-- The query codes at the first key-value head. -/
theorem A_qc_apply (q : Fin 896) (d : Fin 512) :
    out0_A_4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 (ix3 0 q d) = rowCo (xRow x0 (headX d)) q (inX d) := by
  unfold out0_A_4
  refine (congrFun (View.read_writes_eq_canon (Val := Elt Ideal) _ _ _ (cover0_A_4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)) _).trans ?_
  rw [A_qc]
  exact canon_pQc arg2 harg2 x0 q d

/-- The query scales at the first key-value head. -/
theorem A_qs_apply (hkv : (i 1).val < 4) (q : Fin 896) (h : Fin 8) :
    out0_A_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 (ix3 0 q h) = if h.val / 2 = (i 1).val then rowSc (xRow x0 (colHead h)) q else 0 := by
  unfold out0_A_5
  refine (congrFun (View.read_writes_eq_canon (Val := Elt Ideal) _ _ _ (cover0_A_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)) _).trans ?_
  rw [A_qs]
  exact (canon_pQs i hkv arg2 harg2 arg7 x0 pZero8 q h).trans (by rw [canon_pZero8])

/-- The key codes at the first key-value head. -/
theorem A_kc_apply (q : Fin 896) (d : Fin 256) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 (ix3 0 q d) = rowCo (kRow x1) q d := by
  unfold out0_A_6
  refine (congrFun (View.read_writes_eq_canon (Val := Elt Ideal) _ _ _ (cover0_A_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)) _).trans ?_
  rw [A_kc]
  exact canon_pKc _ (kRow x1) (fun i a d => lk_apply arg3 harg3 x1 i 0 a d) q d

/-- The key scales at the first key-value head. -/
theorem A_ks_apply (hkv : (i 1).val < 4) (q : Fin 896) (h : Fin 4) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 (ix3 0 q h) = if h.val = (i 1).val then rowSc (kRow x1) q else 0 := by
  unfold out0_A_7
  refine (congrFun (View.read_writes_eq_canon (Val := Elt Ideal) _ _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)) _).trans ?_
  rw [A_ks]
  exact (canon_pKs i hkv _ (kRow x1) (fun i a d => lk_apply arg3 harg3 x1 i 0 a d) arg9.view pZero4 q h).trans (by rw [canon_pZero4])

/-- The value codes at the first key-value head. -/
theorem A_vc_apply (q : Fin 896) (d : Fin 256) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 (ix3 0 q d) = rowCo (kRow x2) q d := by
  unfold out0_A_8
  refine (congrFun (View.read_writes_eq_canon (Val := Elt Ideal) _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)) _).trans ?_
  rw [A_vc]
  exact canon_pKc _ (kRow x2) (fun i a d => lv_apply arg4 harg4 x2 i 0 a d) q d

/-- The value scales at the first key-value head. -/
theorem A_vs_apply (hkv : (i 1).val < 4) (q : Fin 896) (h : Fin 4) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 (ix3 0 q h) = if h.val = (i 1).val then rowSc (kRow x2) q else 0 := by
  unfold out0_A_9
  refine (congrFun (View.read_writes_eq_canon (Val := Elt Ideal) _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)) _).trans ?_
  rw [A_vs]
  exact (canon_pKs i hkv _ (kRow x2) (fun i a d => lv_apply arg4 harg4 x2 i 0 a d) arg11.view pZero4 q h).trans (by rw [canon_pZero4])

end caseA

section caseB

variable (hc0 : ¬cond0_0 i)

/-- The result at a later key-value head. -/
theorem B_out_apply (hV : 0 ≤ rowSc (kRow x2) 0 * vnormS (rowSc (kRow x2))) (q : Fin 896) (d : Fin 512) :
    out0_B_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9 (ix3 0 q d) = outS (xRow x0 (headX d)) (kRow x1) (kRow x2) q (inX d) := by
  unfold out0_B_3
  refine (congrFun (View.read_writes_eq_canon (Val := Elt Ideal) _ _ _ (cover0_B_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9)) _).trans ?_
  rw [B_out]
  exact canon_pOuts arg2 harg2 arg3 harg3 arg4 harg4 arg8 arg12 arg13 arg14 arg15 x0 x1 x2 hV q d

/-- The query codes at a later key-value head. -/
theorem B_qc_apply (q : Fin 896) (d : Fin 512) :
    out0_B_4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9 (ix3 0 q d) = rowCo (xRow x0 (headX d)) q (inX d) := by
  unfold out0_B_4
  refine (congrFun (View.read_writes_eq_canon (Val := Elt Ideal) _ _ _ (cover0_B_4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9)) _).trans ?_
  rw [B_qc]
  exact canon_pQc arg2 harg2 x0 q d

/-- The query scales at a later key-value head. -/
theorem B_qs_apply (hkv : (i 1).val < 4) (q : Fin 896) (h : Fin 8) :
    out0_B_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9 (ix3 0 q h) = if h.val / 2 = (i 1).val then rowSc (xRow x0 (colHead h)) q else xo5 (ix3 0 q h) := by
  unfold out0_B_5
  refine (congrFun (View.read_writes_eq_canon (Val := Elt Ideal) _ _ _ (cover0_B_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9)) _).trans ?_
  rw [B_qs]
  exact canon_pQsB i hkv arg2 harg2 arg7 x0 _ xo5 (fun t x => congrFun (harg7.read_unread xo5) _) q h _ [] (.inl (by
    obtain ⟨t, r, e, -⟩ := row_split q
    exact ⟨t, mem7 t, r, e⟩))

/-- The key codes at a later key-value head. -/
theorem B_kc_apply (q : Fin 896) (d : Fin 256) :
    out0_B_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9 (ix3 0 q d) = rowCo (kRow x1) q d := by
  unfold out0_B_6
  refine (congrFun (View.read_writes_eq_canon (Val := Elt Ideal) _ _ _ (cover0_B_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9)) _).trans ?_
  rw [B_kc]
  exact canon_pKc _ (kRow x1) (fun i a d => lk_apply arg3 harg3 x1 i 0 a d) q d

/-- The key scales at a later key-value head. -/
theorem B_ks_apply (hkv : (i 1).val < 4) (q : Fin 896) (h : Fin 4) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9 (ix3 0 q h) = if h.val = (i 1).val then rowSc (kRow x1) q else xo7 (ix3 0 q h) := by
  unfold out0_B_7
  refine (congrFun (View.read_writes_eq_canon (Val := Elt Ideal) _ _ _ (cover0_B_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9)) _).trans ?_
  rw [B_ks]
  exact canon_pKsB i hkv _ (kRow x1) (fun i a d => lk_apply arg3 harg3 x1 i 0 a d) _ xo7 (fun t x => congrFun (harg9.read_unread xo7) _) q h

/-- The value codes at a later key-value head. -/
theorem B_vc_apply (q : Fin 896) (d : Fin 256) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9 (ix3 0 q d) = rowCo (kRow x2) q d := by
  unfold out0_B_8
  refine (congrFun (View.read_writes_eq_canon (Val := Elt Ideal) _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9)) _).trans ?_
  rw [B_vc]
  exact canon_pKc _ (kRow x2) (fun i a d => lv_apply arg4 harg4 x2 i 0 a d) q d

/-- The value scales at a later key-value head. -/
theorem B_vs_apply (hkv : (i 1).val < 4) (q : Fin 896) (h : Fin 4) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9 (ix3 0 q h) = if h.val = (i 1).val then rowSc (kRow x2) q else xo9 (ix3 0 q h) := by
  unfold out0_B_9
  refine (congrFun (View.read_writes_eq_canon (Val := Elt Ideal) _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo5 xo7 xo9)) _).trans ?_
  rw [B_vs]
  exact canon_pKsB i hkv _ (kRow x2) (fun i a d => lv_apply arg4 harg4 x2 i 0 a d) _ xo9 (fun t x => congrFun (harg11.read_unread xo9) _) q h

end caseB

end Cert.KernelIdeal.Vocab
-- ==== Proof.Arrays.lean ====
/- The seven result arrays the run leaves, as functions of the three arguments. -/
module

public import proofs.«01_k».proof.Proof.Outs

@[expose] public section

set_option maxRecDepth 16384

noncomputable section

namespace Cert.KernelIdeal.Arrays

open Idealize.ShloMosaic Idealize.ShloMosaic.TcCoe
open Idealize.ShloMosaic.Pipeline (Dat)
open Cert.KernelIdeal.Gen Cert.KernelIdeal.Vocab Cert.KernelIdeal.Value
open Cert.Scal

variable (m : (ℓ : Loc nD τ sig) → Buf (Elt Ideal) ℓ) (c : Dev nD)

/-- The argument of queries. -/
abbrev argX : S3x896x2048.Idx → EReal := m ((c : Thread nD τ).loc main_arg0)
/-- The argument of keys. -/
abbrev argK : S3x896x1024.Idx → EReal := m ((c : Thread nD τ).loc main_arg1)
/-- The argument of values. -/
abbrev argV : S3x896x1024.Idx → EReal := m ((c : Thread nD τ).loc main_arg2)

/-- One batch's rows of one query head. -/
def headQ (X : S3x896x2048.Idx → EReal) (b : Fin 3) (h : Fin 8) (q : Fin 896) (d : Fin 256) : EReal := X (ix3 b q (⟨256 * h.val + d.val, by omega⟩ : Fin 2048))
/-- One batch's rows of one key or value head. -/
def headK (X : S3x896x1024.Idx → EReal) (b : Fin 3) (h : Fin 4) (q : Fin 896) (d : Fin 256) : EReal := X (ix3 b q (⟨256 * h.val + d.val, by omega⟩ : Fin 1024))

theorem N12 : cfg0.N = 12 := N_0

/-- A point's batch. -/
abbrev bt (t : Fin cfg0.N) : Fin 3 := ⟨t.val / 4, by have := t.isLt; have := N12; omega⟩
/-- A point's key-value head. -/
abbrev kv (t : Fin cfg0.N) : Fin 4 := ⟨t.val % 4, by omega⟩
/-- A query head of a point. -/
abbrev qh (t : Fin cfg0.N) (g : Fin 2) : Fin 8 := ⟨2 * (t.val % 4) + g.val, by omega⟩

theorem coord1 : ∀ t : Fin cfg0.N, (grid0.coords t 1).val = t.val % 4 := (by decide +kernel : ∀ t : Fin grid0.N, (grid0.coords t 1).val = t.val % 4)
theorem coord1_lt (t : Fin cfg0.N) : (grid0.coords t 1).val < 4 := by rw [coord1]; omega

theorem idx0 : ∀ t : Fin cfg0.N, win0_0.index t 0 = t.val / 4 ∧ win0_0.index t 1 = 0 ∧ win0_0.index t 2 = t.val % 4 :=
  (by decide +kernel : ∀ t : Fin grid0.N, win0_0.index t 0 = t.val / 4 ∧ win0_0.index t 1 = 0 ∧ win0_0.index t 2 = t.val % 4)
theorem idx1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)
theorem idx2 : ∀ t : Fin cfg0.N, win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4)
theorem idx3 : ∀ t : Fin cfg0.N, win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4)
theorem idx4 : ∀ t : Fin cfg0.N, win0_4.index t 0 = t.val / 4 ∧ win0_4.index t 1 = 0 ∧ win0_4.index t 2 = t.val % 4 :=
  (by decide +kernel : ∀ t : Fin grid0.N, win0_4.index t 0 = t.val / 4 ∧ win0_4.index t 1 = 0 ∧ win0_4.index t 2 = t.val % 4)
theorem idx6 : ∀ t : Fin cfg0.N, win0_6.index t 0 = t.val / 4 ∧ win0_6.index t 1 = 0 ∧ win0_6.index t 2 = t.val % 4 :=
  (by decide +kernel : ∀ t : Fin grid0.N, win0_6.index t 0 = t.val / 4 ∧ win0_6.index t 1 = 0 ∧ win0_6.index t 2 = t.val % 4)
theorem idx8 : ∀ t : Fin cfg0.N, win0_8.index t 0 = t.val / 4 ∧ win0_8.index t 1 = 0 ∧ win0_8.index t 2 = t.val % 4 :=
  (by decide +kernel : ∀ t : Fin grid0.N, win0_8.index t 0 = t.val / 4 ∧ win0_8.index t 1 = 0 ∧ win0_8.index t 2 = t.val % 4)
theorem idx5 : ∀ t : Fin cfg0.N, win0_5.index t 0 = t.val / 4 ∧ win0_5.index t 1 = 0 ∧ win0_5.index t 2 = 0 :=
  (by decide +kernel : ∀ t : Fin grid0.N, win0_5.index t 0 = t.val / 4 ∧ win0_5.index t 1 = 0 ∧ win0_5.index t 2 = 0)
theorem idx7 : ∀ t : Fin cfg0.N, win0_7.index t 0 = t.val / 4 ∧ win0_7.index t 1 = 0 ∧ win0_7.index t 2 = 0 :=
  (by decide +kernel : ∀ t : Fin grid0.N, win0_7.index t 0 = t.val / 4 ∧ win0_7.index t 1 = 0 ∧ win0_7.index t 2 = 0)
theorem idx9 : ∀ t : Fin cfg0.N, win0_9.index t 0 = t.val / 4 ∧ win0_9.index t 1 = 0 ∧ win0_9.index t 2 = 0 :=
  (by decide +kernel : ∀ t : Fin grid0.N, win0_9.index t 0 = t.val / 4 ∧ win0_9.index t 1 = 0 ∧ win0_9.index t 2 = 0)

theorem emb_0 (t : Fin cfg0.N) (a : Fin 1) (q : Fin 896) (d : Fin 512) :
    (win0_0.rect t).emb (ix3 a q d) = (ix3 (bt t) q (⟨512 * (t.val % 4) + d.val, by omega⟩ : Fin 2048) : S3x896x2048.Idx) := by
  obtain ⟨h0, h1, h2⟩ := idx0 t
  funext b; apply Fin.ext
  refine (win0_0.rect_emb_val t _ b).trans ?_
  match b with
  | 0 => rw [h0]; show t.val / 4 * 1 + a.val = t.val / 4; omega
  | 1 => rw [h1]; show 0 * 896 + q.val = q.val; omega
  | 2 => rw [h2]; show t.val % 4 * 512 + d.val = 512 * (t.val % 4) + d.val; omega

theorem emb_1 (t : Fin cfg0.N) (a : Fin 1) (q : Fin 896) (d : Fin 256) :
    (win0_1.rect t).emb (ix3 a q d) = (ix3 (bt t) q (⟨256 * (t.val % 4) + d.val, by omega⟩ : Fin 1024) : S3x896x1024.Idx) := by
  obtain ⟨h0, h1, h2⟩ := idx1 t
  funext b; apply Fin.ext
  refine (win0_1.rect_emb_val t _ b).trans ?_
  match b with
  | 0 => rw [h0]; show t.val / 4 * 1 + a.val = t.val / 4; omega
  | 1 => rw [h1]; show 0 * 896 + q.val = q.val; omega
  | 2 => rw [h2]; show t.val % 4 * 256 + d.val = 256 * (t.val % 4) + d.val; omega

theorem emb_2 (t : Fin cfg0.N) (a : Fin 1) (q : Fin 896) (d : Fin 256) :
    (win0_2.rect t).emb (ix3 a q d) = (ix3 (bt t) q (⟨256 * (t.val % 4) + d.val, by omega⟩ : Fin 1024) : S3x896x1024.Idx) := by
  obtain ⟨h0, h1, h2⟩ := idx2 t
  funext b; apply Fin.ext
  refine (win0_2.rect_emb_val t _ b).trans ?_
  match b with
  | 0 => rw [h0]; show t.val / 4 * 1 + a.val = t.val / 4; omega
  | 1 => rw [h1]; show 0 * 896 + q.val = q.val; omega
  | 2 => rw [h2]; show t.val % 4 * 256 + d.val = 256 * (t.val % 4) + d.val; omega

/-- The program's rows of queries are its heads' rows of the argument. -/
theorem xRow_iblk (t : Fin cfg0.N) (g : Fin 2) : xRow (iblk m c 0 t) g = headQ (argX m c) (bt t) (qh t g) := by
  funext q d
  show argX m c ((win0_0.rect t).emb (ix3 0 q (⟨256 * g.val + d.val, by omega⟩ : Fin 512))) = _
  rw [emb_0]
  refine congrArg (fun l => argX m c (ix3 (bt t) q l)) (Fin.ext ?_)
  show 512 * (t.val % 4) + (256 * g.val + d.val) = 256 * (2 * (t.val % 4) + g.val) + d.val
  omega

theorem kRow_iblk1 (t : Fin cfg0.N) : kRow (iblk m c 1 t) = headK (argK m c) (bt t) (kv t) := by
  funext q d
  show argK m c ((win0_1.rect t).emb (ix3 0 q d)) = _
  rw [emb_1]; rfl

theorem kRow_iblk2 (t : Fin cfg0.N) : kRow (iblk m c 2 t) = headK (argV m c) (bt t) (kv t) := by
  funext q d
  show argV m c ((win0_2.rect t).emb (ix3 0 q d)) = _
  rw [emb_2]; rfl

/-! ### What the staging buffers hold after each point -/

/-- The first value row of each head normalises to something not negative. -/
def VOk (V : S3x896x1024.Idx → EReal) : Prop := ∀ b h, 0 ≤ rowSc (headK V b h) 0 * vnormS (rowSc (headK V b h))

theorem at3 (hV : VOk (argV m c)) (t : Fin cfg0.N) (q : Fin 896) (d : Fin 512) :
    (outsAt0 m c t.val t.isLt).1 (ix3 0 q d) =
      outS (headQ (argX m c) (bt t) (qh t (headX d))) (headK (argK m c) (bt t) (kv t)) (headK (argV m c) (bt t) (kv t)) q (inX d) := by
  have hV' : 0 ≤ rowSc (kRow (iblk m c 2 t)) 0 * vnormS (rowSc (kRow (iblk m c 2 t))) := by rw [kRow_iblk2]; exact hV _ _
  rw [← xRow_iblk, ← kRow_iblk1, ← kRow_iblk2]
  by_cases h0 : t.val % 4 = 0
  · rw [outsAt0_A m c t h0]; dsimp only
    rw [A_out_apply _ _ _ _ _ _ _ _ _ _ _ _ _ _ _ _ _ _ _ _ _ _ _ _ _ _ _ _ _ _ _ _ _ _ hV']
  · rw [outsAt0_B m c t h0]; dsimp only
    rw [B_out_apply _ _ _ _ _ _ _ _ _ _ _ _ _ _ _ _ _ _ _ _ _ _ _ _ _ _ _ _ _ _ _ _ _ _ _ _ _ hV']

theorem at4 (t : Fin cfg0.N) (q : Fin 896) (d : Fin 512) :
    (outsAt0 m c t.val t.isLt).2.1 (ix3 0 q d) = rowCo (headQ (argX m c) (bt t) (qh t (headX d))) q (inX d) := by
  rw [← xRow_iblk]
  by_cases h0 : t.val % 4 = 0
  · rw [outsAt0_A m c t h0]; dsimp only; rw [A_qc_apply]
  · rw [outsAt0_B m c t h0]; dsimp only; rw [B_qc_apply]

theorem at6 (t : Fin cfg0.N) (q : Fin 896) (d : Fin 256) :
    (outsAt0 m c t.val t.isLt).2.2.2.1 (ix3 0 q d) = rowCo (headK (argK m c) (bt t) (kv t)) q d := by
  rw [← kRow_iblk1]
  by_cases h0 : t.val % 4 = 0
  · rw [outsAt0_A m c t h0]; dsimp only; rw [A_kc_apply]
  · rw [outsAt0_B m c t h0]; dsimp only; rw [B_kc_apply]

theorem at8 (t : Fin cfg0.N) (q : Fin 896) (d : Fin 256) :
    (outsAt0 m c t.val t.isLt).2.2.2.2.2.1 (ix3 0 q d) = rowCo (headK (argV m c) (bt t) (kv t)) q d := by
  rw [← kRow_iblk2]
  by_cases h0 : t.val % 4 = 0
  · rw [outsAt0_A m c t h0]; dsimp only; rw [A_vc_apply]
  · rw [outsAt0_B m c t h0]; dsimp only; rw [B_vc_apply]

/-- After a point, the query scales' columns of the heads so far are set and the others zero. -/
theorem at5 (q : Fin 896) (h : Fin 8) : ∀ (n : ℕ) (hn : n < cfg0.N),
    (outsAt0 m c n hn).2.2.1 (ix3 0 q h) = if h.val / 2 ≤ n % 4 then rowSc (headQ (argX m c) (bt ⟨n, hn⟩) h) q else 0 := by
  intro n
  induction n with
  | zero =>
    intro hn
    rw [outsAt0_A m c ⟨0, hn⟩ (Nat.zero_mod _)]; dsimp only
    rw [A_qs_apply _ _ _ _ _ _ _ _ _ _ _ _ _ _ _ _ _ _ _ _ _ _ _ _ _ _ _ _ _ _ _ _ _ _ (coord1_lt ⟨0, hn⟩), coord1, xRow_iblk]
    refine if_ctx_congr ?_ (fun hh => ?_) (fun _ => rfl)
    · show h.val / 2 = 0 % 4 ↔ h.val / 2 ≤ 0 % 4; omega
    · have : qh ⟨0, hn⟩ (colHead h) = h := Fin.ext (by show 2 * (0 % 4) + h.val % 2 = h.val; omega)
      rw [this]
  | succ n ih =>
    intro hn
    by_cases h0 : (n + 1) % 4 = 0
    · rw [outsAt0_A m c ⟨n + 1, hn⟩ h0]; dsimp only
      rw [A_qs_apply _ _ _ _ _ _ _ _ _ _ _ _ _ _ _ _ _ _ _ _ _ _ _ _ _ _ _ _ _ _ _ _ _ _ (coord1_lt ⟨n + 1, hn⟩), coord1, xRow_iblk]
      refine if_ctx_congr ?_ (fun hh => ?_) (fun _ => rfl)
      · show h.val / 2 = (n + 1) % 4 ↔ h.val / 2 ≤ (n + 1) % 4; omega
      · have : qh ⟨n + 1, hn⟩ (colHead h) = h := Fin.ext (by show 2 * ((n + 1) % 4) + h.val % 2 = h.val; omega)
        rw [this]
    · rw [outsAt0_B m c ⟨n + 1, hn⟩ h0]; dsimp only
      rw [B_qs_apply _ _ _ _ _ _ _ _ _ _ _ _ _ _ _ _ _ _ _ _ _ _ _ _ _ _ _ _ _ _ _ _ _ _ _ _ _ (coord1_lt ⟨n + 1, hn⟩), coord1, xRow_iblk]
      have e : (outsAt0 m c n (Nat.lt_of_succ_lt hn)).2.2.1 (ix3 0 q h) = _ := ih (Nat.lt_of_succ_lt hn)
      refine (if_congr Iff.rfl rfl e).trans ?_
      have hb : bt ⟨n, Nat.lt_of_succ_lt hn⟩ = bt ⟨n + 1, hn⟩ := Fin.ext (by show n / 4 = (n + 1) / 4; omega)
      rw [hb]
      by_cases h1 : h.val / 2 = (n + 1) % 4
      · have : qh ⟨n + 1, hn⟩ (colHead h) = h := Fin.ext (by show 2 * ((n + 1) % 4) + h.val % 2 = h.val; omega)
        rw [if_pos h1, if_pos (le_of_eq h1), this]
      · rw [if_neg h1]
        exact if_congr (by omega) rfl rfl

/-- After a point, the key scales' columns of the heads so far are set and the others zero. -/
theorem at7 (q : Fin 896) (h : Fin 4) : ∀ (n : ℕ) (hn : n < cfg0.N),
    (outsAt0 m c n hn).2.2.2.2.1 (ix3 0 q h) = if h.val ≤ n % 4 then rowSc (headK (argK m c) (bt ⟨n, hn⟩) h) q else 0 := by
  intro n
  induction n with
  | zero =>
    intro hn
    rw [outsAt0_A m c ⟨0, hn⟩ (Nat.zero_mod _)]; dsimp only
    rw [A_ks_apply _ _ _ _ _ _ _ _ _ _ _ _ _ _ _ _ _ _ _ _ _ _ _ _ _ _ _ _ _ _ _ _ _ _ (coord1_lt ⟨0, hn⟩), coord1, kRow_iblk1]
    refine if_ctx_congr ?_ (fun hh => ?_) (fun _ => rfl)
    · show h.val = 0 % 4 ↔ h.val ≤ 0 % 4; omega
    · have : kv ⟨0, hn⟩ = h := Fin.ext (by show 0 % 4 = h.val; omega)
      rw [this]
  | succ n ih =>
    intro hn
    by_cases h0 : (n + 1) % 4 = 0
    · rw [outsAt0_A m c ⟨n + 1, hn⟩ h0]; dsimp only
      rw [A_ks_apply _ _ _ _ _ _ _ _ _ _ _ _ _ _ _ _ _ _ _ _ _ _ _ _ _ _ _ _ _ _ _ _ _ _ (coord1_lt ⟨n + 1, hn⟩), coord1, kRow_iblk1]
      refine if_ctx_congr ?_ (fun hh => ?_) (fun _ => rfl)
      · show h.val = (n + 1) % 4 ↔ h.val ≤ (n + 1) % 4; omega
      · have : kv ⟨n + 1, hn⟩ = h := Fin.ext (by show (n + 1) % 4 = h.val; omega)
        rw [this]
    · rw [outsAt0_B m c ⟨n + 1, hn⟩ h0]; dsimp only
      rw [B_ks_apply _ _ _ _ _ _ _ _ _ _ _ _ _ _ _ _ _ _ _ _ _ _ _ _ _ _ _ _ _ _ _ _ _ _ _ _ _ (coord1_lt ⟨n + 1, hn⟩), coord1, kRow_iblk1]
      have e : (outsAt0 m c n (Nat.lt_of_succ_lt hn)).2.2.2.2.1 (ix3 0 q h) = _ := ih (Nat.lt_of_succ_lt hn)
      refine (if_congr Iff.rfl rfl e).trans ?_
      have hb : bt ⟨n, Nat.lt_of_succ_lt hn⟩ = bt ⟨n + 1, hn⟩ := Fin.ext (by show n / 4 = (n + 1) / 4; omega)
      rw [hb]
      by_cases h1 : h.val = (n + 1) % 4
      · have : kv ⟨n + 1, hn⟩ = h := Fin.ext (by show (n + 1) % 4 = h.val; omega)
        rw [if_pos h1, if_pos (le_of_eq h1), this]
      · rw [if_neg h1]
        exact if_congr (by omega) rfl rfl

/-- After a point, the value scales' columns of the heads so far are set and the others zero. -/
theorem at9 (q : Fin 896) (h : Fin 4) : ∀ (n : ℕ) (hn : n < cfg0.N),
    (outsAt0 m c n hn).2.2.2.2.2.2 (ix3 0 q h) = if h.val ≤ n % 4 then rowSc (headK (argV m c) (bt ⟨n, hn⟩) h) q else 0 := by
  intro n
  induction n with
  | zero =>
    intro hn
    rw [outsAt0_A m c ⟨0, hn⟩ (Nat.zero_mod _)]; dsimp only
    rw [A_vs_apply _ _ _ _ _ _ _ _ _ _ _ _ _ _ _ _ _ _ _ _ _ _ _ _ _ _ _ _ _ _ _ _ _ _ (coord1_lt ⟨0, hn⟩), coord1, kRow_iblk2]
    refine if_ctx_congr ?_ (fun hh => ?_) (fun _ => rfl)
    · show h.val = 0 % 4 ↔ h.val ≤ 0 % 4; omega
    · have : kv ⟨0, hn⟩ = h := Fin.ext (by show 0 % 4 = h.val; omega)
      rw [this]
  | succ n ih =>
    intro hn
    by_cases h0 : (n + 1) % 4 = 0
    · rw [outsAt0_A m c ⟨n + 1, hn⟩ h0]; dsimp only
      rw [A_vs_apply _ _ _ _ _ _ _ _ _ _ _ _ _ _ _ _ _ _ _ _ _ _ _ _ _ _ _ _ _ _ _ _ _ _ (coord1_lt ⟨n + 1, hn⟩), coord1, kRow_iblk2]
      refine if_ctx_congr ?_ (fun hh => ?_) (fun _ => rfl)
      · show h.val = (n + 1) % 4 ↔ h.val ≤ (n + 1) % 4; omega
      · have : kv ⟨n + 1, hn⟩ = h := Fin.ext (by show (n + 1) % 4 = h.val; omega)
        rw [this]
    · rw [outsAt0_B m c ⟨n + 1, hn⟩ h0]; dsimp only
      rw [B_vs_apply _ _ _ _ _ _ _ _ _ _ _ _ _ _ _ _ _ _ _ _ _ _ _ _ _ _ _ _ _ _ _ _ _ _ _ _ _ (coord1_lt ⟨n + 1, hn⟩), coord1, kRow_iblk2]
      have e : (outsAt0 m c n (Nat.lt_of_succ_lt hn)).2.2.2.2.2.2 (ix3 0 q h) = _ := ih (Nat.lt_of_succ_lt hn)
      refine (if_congr Iff.rfl rfl e).trans ?_
      have hb : bt ⟨n, Nat.lt_of_succ_lt hn⟩ = bt ⟨n + 1, hn⟩ := Fin.ext (by show n / 4 = (n + 1) / 4; omega)
      rw [hb]
      by_cases h1 : h.val = (n + 1) % 4
      · have : kv ⟨n + 1, hn⟩ = h := Fin.ext (by show (n + 1) % 4 = h.val; omega)
        rw [if_pos h1, if_pos (le_of_eq h1), this]
      · rw [if_neg h1]
        exact if_congr (by omega) rfl rfl

end Cert.KernelIdeal.Arrays
-- ==== Proof.Final.lean ====
/- The seven result arrays at the end of the run. -/
module

public import proofs.«01_k».proof.Proof.Arrays

@[expose] public section

set_option maxRecDepth 16384

noncomputable section

namespace Cert.KernelIdeal.Arrays

open Idealize.ShloMosaic Idealize.ShloMosaic.TcCoe
open Idealize.ShloMosaic.Pipeline (Dat)
open Cert.KernelIdeal.Gen Cert.KernelIdeal.Vocab Cert.KernelIdeal.Value
open Cert.Scal

/-- The query head of a lane. -/
abbrev hq (l : Fin 2048) : Fin 8 := ⟨l.val / 256, by omega⟩
/-- The key-value head of a lane of queries. -/
abbrev hqk (l : Fin 2048) : Fin 4 := ⟨l.val / 512, by omega⟩
/-- The place of a lane in its head. -/
abbrev dq (l : Fin 2048) : Fin 256 := ⟨l.val % 256, by omega⟩
/-- The key-value head of a lane. -/
abbrev hk (l : Fin 1024) : Fin 4 := ⟨l.val / 256, by omega⟩
/-- The place of a lane in its head. -/
abbrev dk (l : Fin 1024) : Fin 256 := ⟨l.val % 256, by omega⟩

/-- The attention. -/
def resO (X : S3x896x2048.Idx → EReal) (K V : S3x896x1024.Idx → EReal) (y : S3x896x2048.Idx) : EReal :=
  outS (headQ X (y 0) (hq (y 2))) (headK K (y 0) (hqk (y 2))) (headK V (y 0) (hqk (y 2))) (y 1) (dq (y 2))
/-- The query codes. -/
def resQc (X : S3x896x2048.Idx → EReal) (y : S3x896x2048.Idx) : EReal := rowCo (headQ X (y 0) (hq (y 2))) (y 1) (dq (y 2))
/-- The query scales. -/
def resQs (X : S3x896x2048.Idx → EReal) (y : S3x896x8.Idx) : EReal := rowSc (headQ X (y 0) (y 2)) (y 1)
/-- The key or value codes. -/
def resKc (X : S3x896x1024.Idx → EReal) (y : S3x896x1024.Idx) : EReal := rowCo (headK X (y 0) (hk (y 2))) (y 1) (dk (y 2))
/-- The key or value scales. -/
def resKs (X : S3x896x1024.Idx → EReal) (y : S3x896x4.Idx) : EReal := rowSc (headK X (y 0) (y 2)) (y 1)

variable (m : (ℓ : Loc nD τ sig) → Buf (Elt Ideal) ℓ) (c : Dev nD)

/-- Where a place of a block of the result sits. -/
theorem emb_3 (t : Fin cfg0.N) (a : Fin 1) (q : Fin 896) (d : Fin 512) :
    (win0_3.rect t).emb (ix3 a q d) = (ix3 (bt t) q (⟨512 * (t.val % 4) + d.val, by omega⟩ : Fin 2048) : S3x896x2048.Idx) := by
  obtain ⟨h0, h1, h2⟩ := idx3 t
  funext b; apply Fin.ext
  refine (win0_3.rect_emb_val t _ b).trans ?_
  match b with
  | 0 => rw [h0]; show t.val / 4 * 1 + a.val = t.val / 4; omega
  | 1 => rw [h1]; show 0 * 896 + q.val = q.val; omega
  | 2 => rw [h2]; show t.val % 4 * 512 + d.val = 512 * (t.val % 4) + d.val; omega

/-- What a point writes back of the result. -/
theorem wrote3 (hV : VOk (argV m c)) (t : Fin cfg0.N) (hf : (cfg0.win 3).flush t = true) :
    (dats m 0 c).flushed 3 t = ((cfg0.win 3).blk t).view.read (Elt Ideal) (resO (argX m c) (argK m c) (argV m c)) := by
  rw [flushed3]
  funext y
  change S1x896x512.Idx at y
  obtain ⟨a, q, d, rfl⟩ : ∃ (a : Fin 1) (q : Fin 896) (d : Fin 512), y = ix3 a q d := ⟨y 0, y 1, y 2, ValueIdx.eq_ix3 y⟩
  obtain rfl : a = 0 := Fin.ext (by omega)
  show (outsAt0 m c t.val t.isLt).1 (ix3 0 q d) = (resO (argX m c) (argK m c) (argV m c)) ((win0_3.rect t).emb (ix3 0 q d))
  rw [emb_3, at3 m c hV t q d]
  have e1 : hq (⟨512 * (t.val % 4) + d.val, by omega⟩ : Fin 2048) = qh t (headX d) := Fin.ext (by show (512 * (t.val % 4) + d.val) / 256 = 2 * (t.val % 4) + d.val / 256; omega)
  have e2 : hqk (⟨512 * (t.val % 4) + d.val, by omega⟩ : Fin 2048) = kv t := Fin.ext (by show (512 * (t.val % 4) + d.val) / 512 = t.val % 4; omega)
  have e3 : dq (⟨512 * (t.val % 4) + d.val, by omega⟩ : Fin 2048) = inX d := Fin.ext (by show (512 * (t.val % 4) + d.val) % 256 = d.val % 256; omega)
  show _ = outS (headQ (argX m c) (bt t) (hq (⟨512 * (t.val % 4) + d.val, by omega⟩ : Fin 2048))) (headK (argK m c) (bt t) (hqk (⟨512 * (t.val % 4) + d.val, by omega⟩ : Fin 2048)))
    (headK (argV m c) (bt t) (hqk (⟨512 * (t.val % 4) + d.val, by omega⟩ : Fin 2048))) q (dq (⟨512 * (t.val % 4) + d.val, by omega⟩ : Fin 2048))
  rw [e1, e2, e3]

/-- The blocks written back are the whole of the result. -/
theorem all3 (i : S3x896x2048.Idx) : ∃ t : Fin cfg0.N, (cfg0.win 3).flush t = true ∧ i ∈ ((cfg0.win 3).blk t).view.set := by
  have h0 : (i 0).val < 3 := (i 0).isLt
  have h2 : (i 2).val < 2048 := (i 2).isLt
  obtain ⟨t, ht⟩ : ∃ t : Fin cfg0.N, t.val = 4 * (i 0).val + (i 2).val / 512 := ⟨⟨4 * (i 0).val + (i 2).val / 512, by rw [N12]; omega⟩, rfl⟩
  have e : (win0_3.rect t).emb (ix3 0 (i 1) (⟨(i 2).val % 512, by omega⟩ : Fin 512)) = i := by
    refine (emb_3 _ 0 (i 1) _).trans ?_
    funext b; apply Fin.ext
    match b with
    | 0 => show t.val / 4 = (i 0).val; omega
    | 1 => rfl
    | 2 => show 512 * (t.val % 4) + (i 2).val % 512 = (i 2).val; omega
  refine ⟨t, flush0_3 _, ?_⟩
  show i ∈ ((View.whole main_v0_0).slice (win0_3.rect t)).set
  rw [View.set_slice_whole, ← e]
  exact (win0_3.rect t).idx_mem _

/-- The array of the result at the end. -/
theorem final3 (hV : VOk (argV m c)) : (dats m 0 c).arrAt 3 cfg0.N = resO (argX m c) (argK m c) (argV m c) :=
  (dats m 0 c).arrAt_eq_of_cover 3 (resO (argX m c) (argK m c) (argV m c)) (wrote3 m c hV) all3

/-- Where a place of a block of the query codes sits. -/
theorem emb_4 (t : Fin cfg0.N) (a : Fin 1) (q : Fin 896) (d : Fin 512) :
    (win0_4.rect t).emb (ix3 a q d) = (ix3 (bt t) q (⟨512 * (t.val % 4) + d.val, by omega⟩ : Fin 2048) : S3x896x2048.Idx) := by
  obtain ⟨h0, h1, h2⟩ := idx4 t
  funext b; apply Fin.ext
  refine (win0_4.rect_emb_val t _ b).trans ?_
  match b with
  | 0 => rw [h0]; show t.val / 4 * 1 + a.val = t.val / 4; omega
  | 1 => rw [h1]; show 0 * 896 + q.val = q.val; omega
  | 2 => rw [h2]; show t.val % 4 * 512 + d.val = 512 * (t.val % 4) + d.val; omega

/-- What a point writes back of the query codes. -/
theorem wrote4 (t : Fin cfg0.N) (hf : (cfg0.win 4).flush t = true) :
    (dats m 0 c).flushed 4 t = ((cfg0.win 4).blk t).view.read (Elt Ideal) (resQc (argX m c)) := by
  rw [flushed4]
  funext y
  change S1x896x512.Idx at y
  obtain ⟨a, q, d, rfl⟩ : ∃ (a : Fin 1) (q : Fin 896) (d : Fin 512), y = ix3 a q d := ⟨y 0, y 1, y 2, ValueIdx.eq_ix3 y⟩
  obtain rfl : a = 0 := Fin.ext (by omega)
  show (outsAt0 m c t.val t.isLt).2.1 (ix3 0 q d) = (resQc (argX m c)) ((win0_4.rect t).emb (ix3 0 q d))
  rw [emb_4, at4 m c t q d]
  have e1 : hq (⟨512 * (t.val % 4) + d.val, by omega⟩ : Fin 2048) = qh t (headX d) := Fin.ext (by show (512 * (t.val % 4) + d.val) / 256 = 2 * (t.val % 4) + d.val / 256; omega)
  have e3 : dq (⟨512 * (t.val % 4) + d.val, by omega⟩ : Fin 2048) = inX d := Fin.ext (by show (512 * (t.val % 4) + d.val) % 256 = d.val % 256; omega)
  show _ = rowCo (headQ (argX m c) (bt t) (hq (⟨512 * (t.val % 4) + d.val, by omega⟩ : Fin 2048))) q (dq (⟨512 * (t.val % 4) + d.val, by omega⟩ : Fin 2048))
  rw [e1, e3]

/-- The blocks written back are the whole of the query codes. -/
theorem all4 (i : S3x896x2048.Idx) : ∃ t : Fin cfg0.N, (cfg0.win 4).flush t = true ∧ i ∈ ((cfg0.win 4).blk t).view.set := by
  have h0 : (i 0).val < 3 := (i 0).isLt
  have h2 : (i 2).val < 2048 := (i 2).isLt
  obtain ⟨t, ht⟩ : ∃ t : Fin cfg0.N, t.val = 4 * (i 0).val + (i 2).val / 512 := ⟨⟨4 * (i 0).val + (i 2).val / 512, by rw [N12]; omega⟩, rfl⟩
  have e : (win0_4.rect t).emb (ix3 0 (i 1) (⟨(i 2).val % 512, by omega⟩ : Fin 512)) = i := by
    refine (emb_4 _ 0 (i 1) _).trans ?_
    funext b; apply Fin.ext
    match b with
    | 0 => show t.val / 4 = (i 0).val; omega
    | 1 => rfl
    | 2 => show 512 * (t.val % 4) + (i 2).val % 512 = (i 2).val; omega
  refine ⟨t, flush0_4 _, ?_⟩
  show i ∈ ((View.whole main_v0_1).slice (win0_4.rect t)).set
  rw [View.set_slice_whole, ← e]
  exact (win0_4.rect t).idx_mem _

/-- The array of the query codes at the end. -/
theorem final4 : (dats m 0 c).arrAt 4 cfg0.N = resQc (argX m c) :=
  (dats m 0 c).arrAt_eq_of_cover 4 (resQc (argX m c)) (wrote4 m c) all4

/-- Where a place of a block of the key codes sits. -/
theorem emb_6 (t : Fin cfg0.N) (a : Fin 1) (q : Fin 896) (d : Fin 256) :
    (win0_6.rect t).emb (ix3 a q d) = (ix3 (bt t) q (⟨256 * (t.val % 4) + d.val, by omega⟩ : Fin 1024) : S3x896x1024.Idx) := by
  obtain ⟨h0, h1, h2⟩ := idx6 t
  funext b; apply Fin.ext
  refine (win0_6.rect_emb_val t _ b).trans ?_
  match b with
  | 0 => rw [h0]; show t.val / 4 * 1 + a.val = t.val / 4; omega
  | 1 => rw [h1]; show 0 * 896 + q.val = q.val; omega
  | 2 => rw [h2]; show t.val % 4 * 256 + d.val = 256 * (t.val % 4) + d.val; omega

/-- What a point writes back of the key codes. -/
theorem wrote6 (t : Fin cfg0.N) (hf : (cfg0.win 6).flush t = true) :
    (dats m 0 c).flushed 6 t = ((cfg0.win 6).blk t).view.read (Elt Ideal) (resKc (argK m c)) := by
  rw [flushed6]
  funext y
  change S1x896x256.Idx at y
  obtain ⟨a, q, d, rfl⟩ : ∃ (a : Fin 1) (q : Fin 896) (d : Fin 256), y = ix3 a q d := ⟨y 0, y 1, y 2, ValueIdx.eq_ix3 y⟩
  obtain rfl : a = 0 := Fin.ext (by omega)
  show (outsAt0 m c t.val t.isLt).2.2.2.1 (ix3 0 q d) = (resKc (argK m c)) ((win0_6.rect t).emb (ix3 0 q d))
  rw [emb_6, at6 m c t q d]
  have e1 : hk (⟨256 * (t.val % 4) + d.val, by omega⟩ : Fin 1024) = kv t := Fin.ext (by show (256 * (t.val % 4) + d.val) / 256 = t.val % 4; omega)
  have e3 : dk (⟨256 * (t.val % 4) + d.val, by omega⟩ : Fin 1024) = d := Fin.ext (by show (256 * (t.val % 4) + d.val) % 256 = d.val; omega)
  show _ = rowCo (headK (argK m c) (bt t) (hk (⟨256 * (t.val % 4) + d.val, by omega⟩ : Fin 1024))) q (dk (⟨256 * (t.val % 4) + d.val, by omega⟩ : Fin 1024))
  rw [e1, e3]

/-- The blocks written back are the whole of the key codes. -/
theorem all6 (i : S3x896x1024.Idx) : ∃ t : Fin cfg0.N, (cfg0.win 6).flush t = true ∧ i ∈ ((cfg0.win 6).blk t).view.set := by
  have h0 : (i 0).val < 3 := (i 0).isLt
  have h2 : (i 2).val < 1024 := (i 2).isLt
  obtain ⟨t, ht⟩ : ∃ t : Fin cfg0.N, t.val = 4 * (i 0).val + (i 2).val / 256 := ⟨⟨4 * (i 0).val + (i 2).val / 256, by rw [N12]; omega⟩, rfl⟩
  have e : (win0_6.rect t).emb (ix3 0 (i 1) (⟨(i 2).val % 256, by omega⟩ : Fin 256)) = i := by
    refine (emb_6 _ 0 (i 1) _).trans ?_
    funext b; apply Fin.ext
    match b with
    | 0 => show t.val / 4 = (i 0).val; omega
    | 1 => rfl
    | 2 => show 256 * (t.val % 4) + (i 2).val % 256 = (i 2).val; omega
  refine ⟨t, flush0_6 _, ?_⟩
  show i ∈ ((View.whole main_v0_3).slice (win0_6.rect t)).set
  rw [View.set_slice_whole, ← e]
  exact (win0_6.rect t).idx_mem _

/-- The array of the key codes at the end. -/
theorem final6 : (dats m 0 c).arrAt 6 cfg0.N = resKc (argK m c) :=
  (dats m 0 c).arrAt_eq_of_cover 6 (resKc (argK m c)) (wrote6 m c) all6

/-- Where a place of a block of the value codes sits. -/
theorem emb_8 (t : Fin cfg0.N) (a : Fin 1) (q : Fin 896) (d : Fin 256) :
    (win0_8.rect t).emb (ix3 a q d) = (ix3 (bt t) q (⟨256 * (t.val % 4) + d.val, by omega⟩ : Fin 1024) : S3x896x1024.Idx) := by
  obtain ⟨h0, h1, h2⟩ := idx8 t
  funext b; apply Fin.ext
  refine (win0_8.rect_emb_val t _ b).trans ?_
  match b with
  | 0 => rw [h0]; show t.val / 4 * 1 + a.val = t.val / 4; omega
  | 1 => rw [h1]; show 0 * 896 + q.val = q.val; omega
  | 2 => rw [h2]; show t.val % 4 * 256 + d.val = 256 * (t.val % 4) + d.val; omega

/-- What a point writes back of the value codes. -/
theorem wrote8 (t : Fin cfg0.N) (hf : (cfg0.win 8).flush t = true) :
    (dats m 0 c).flushed 8 t = ((cfg0.win 8).blk t).view.read (Elt Ideal) (resKc (argV m c)) := by
  rw [flushed8]
  funext y
  change S1x896x256.Idx at y
  obtain ⟨a, q, d, rfl⟩ : ∃ (a : Fin 1) (q : Fin 896) (d : Fin 256), y = ix3 a q d := ⟨y 0, y 1, y 2, ValueIdx.eq_ix3 y⟩
  obtain rfl : a = 0 := Fin.ext (by omega)
  show (outsAt0 m c t.val t.isLt).2.2.2.2.2.1 (ix3 0 q d) = (resKc (argV m c)) ((win0_8.rect t).emb (ix3 0 q d))
  rw [emb_8, at8 m c t q d]
  have e1 : hk (⟨256 * (t.val % 4) + d.val, by omega⟩ : Fin 1024) = kv t := Fin.ext (by show (256 * (t.val % 4) + d.val) / 256 = t.val % 4; omega)
  have e3 : dk (⟨256 * (t.val % 4) + d.val, by omega⟩ : Fin 1024) = d := Fin.ext (by show (256 * (t.val % 4) + d.val) % 256 = d.val; omega)
  show _ = rowCo (headK (argV m c) (bt t) (hk (⟨256 * (t.val % 4) + d.val, by omega⟩ : Fin 1024))) q (dk (⟨256 * (t.val % 4) + d.val, by omega⟩ : Fin 1024))
  rw [e1, e3]

/-- The blocks written back are the whole of the value codes. -/
theorem all8 (i : S3x896x1024.Idx) : ∃ t : Fin cfg0.N, (cfg0.win 8).flush t = true ∧ i ∈ ((cfg0.win 8).blk t).view.set := by
  have h0 : (i 0).val < 3 := (i 0).isLt
  have h2 : (i 2).val < 1024 := (i 2).isLt
  obtain ⟨t, ht⟩ : ∃ t : Fin cfg0.N, t.val = 4 * (i 0).val + (i 2).val / 256 := ⟨⟨4 * (i 0).val + (i 2).val / 256, by rw [N12]; omega⟩, rfl⟩
  have e : (win0_8.rect t).emb (ix3 0 (i 1) (⟨(i 2).val % 256, by omega⟩ : Fin 256)) = i := by
    refine (emb_8 _ 0 (i 1) _).trans ?_
    funext b; apply Fin.ext
    match b with
    | 0 => show t.val / 4 = (i 0).val; omega
    | 1 => rfl
    | 2 => show 256 * (t.val % 4) + (i 2).val % 256 = (i 2).val; omega
  refine ⟨t, flush0_8 _, ?_⟩
  show i ∈ ((View.whole main_v0_5).slice (win0_8.rect t)).set
  rw [View.set_slice_whole, ← e]
  exact (win0_8.rect t).idx_mem _

/-- The array of the value codes at the end. -/
theorem final8 : (dats m 0 c).arrAt 8 cfg0.N = resKc (argV m c) :=
  (dats m 0 c).arrAt_eq_of_cover 8 (resKc (argV m c)) (wrote8 m c) all8

/-- Where a place of a block of the query scales sits. -/
theorem emb_5 (t : Fin cfg0.N) (a : Fin 1) (q : Fin 896) (d : Fin 8) :
    (win0_5.rect t).emb (ix3 a q d) = (ix3 (bt t) q d : S3x896x8.Idx) := by
  obtain ⟨h0, h1, h2⟩ := idx5 t
  funext b; apply Fin.ext
  refine (win0_5.rect_emb_val t _ b).trans ?_
  match b with
  | 0 => rw [h0]; show t.val / 4 * 1 + a.val = t.val / 4; omega
  | 1 => rw [h1]; show 0 * 896 + q.val = q.val; omega
  | 2 => rw [h2]; show 0 * 8 + d.val = d.val; omega

/-- What a point writes back of the query scales. -/
theorem wrote5 (t : Fin cfg0.N) (hf : (cfg0.win 5).flush t = true) :
    (dats m 0 c).flushed 5 t = ((cfg0.win 5).blk t).view.read (Elt Ideal) (resQs (argX m c)) := by
  rw [flushed5]
  funext y
  change S1x896x8.Idx at y
  obtain ⟨a, q, d, rfl⟩ : ∃ (a : Fin 1) (q : Fin 896) (d : Fin 8), y = ix3 a q d := ⟨y 0, y 1, y 2, ValueIdx.eq_ix3 y⟩
  obtain rfl : a = 0 := Fin.ext (by omega)
  show (outsAt0 m c t.val t.isLt).2.2.1 (ix3 0 q d) = (resQs (argX m c)) ((win0_5.rect t).emb (ix3 0 q d))
  rw [emb_5, at5 m c q d t.val t.isLt, (flush0_5 t).mp hf]
  exact if_pos (by omega)

/-- The blocks written back are the whole of the query scales. -/
theorem all5 (i : S3x896x8.Idx) : ∃ t : Fin cfg0.N, (cfg0.win 5).flush t = true ∧ i ∈ ((cfg0.win 5).blk t).view.set := by
  have h0 : (i 0).val < 3 := (i 0).isLt
  have h2 : (i 2).val < 8 := (i 2).isLt
  obtain ⟨t, ht⟩ : ∃ t : Fin cfg0.N, t.val = 4 * (i 0).val + 3 := ⟨⟨4 * (i 0).val + 3, by rw [N12]; omega⟩, rfl⟩
  have e : (win0_5.rect t).emb (ix3 0 (i 1) (i 2)) = i := by
    refine (emb_5 _ 0 (i 1) _).trans ?_
    funext b; apply Fin.ext
    match b with
    | 0 => show t.val / 4 = (i 0).val; omega
    | 1 => rfl
    | 2 => rfl
  refine ⟨t, (flush0_5 _).mpr (by show t.val % 4 = 3; omega), ?_⟩
  show i ∈ ((View.whole main_v0_2).slice (win0_5.rect t)).set
  rw [View.set_slice_whole, ← e]
  exact (win0_5.rect t).idx_mem _

/-- The array of the query scales at the end. -/
theorem final5 : (dats m 0 c).arrAt 5 cfg0.N = resQs (argX m c) :=
  (dats m 0 c).arrAt_eq_of_cover 5 (resQs (argX m c)) (wrote5 m c) all5

/-- Where a place of a block of the key scales sits. -/
theorem emb_7 (t : Fin cfg0.N) (a : Fin 1) (q : Fin 896) (d : Fin 4) :
    (win0_7.rect t).emb (ix3 a q d) = (ix3 (bt t) q d : S3x896x4.Idx) := by
  obtain ⟨h0, h1, h2⟩ := idx7 t
  funext b; apply Fin.ext
  refine (win0_7.rect_emb_val t _ b).trans ?_
  match b with
  | 0 => rw [h0]; show t.val / 4 * 1 + a.val = t.val / 4; omega
  | 1 => rw [h1]; show 0 * 896 + q.val = q.val; omega
  | 2 => rw [h2]; show 0 * 4 + d.val = d.val; omega

/-- What a point writes back of the key scales. -/
theorem wrote7 (t : Fin cfg0.N) (hf : (cfg0.win 7).flush t = true) :
    (dats m 0 c).flushed 7 t = ((cfg0.win 7).blk t).view.read (Elt Ideal) (resKs (argK m c)) := by
  rw [flushed7]
  funext y
  change S1x896x4.Idx at y
  obtain ⟨a, q, d, rfl⟩ : ∃ (a : Fin 1) (q : Fin 896) (d : Fin 4), y = ix3 a q d := ⟨y 0, y 1, y 2, ValueIdx.eq_ix3 y⟩
  obtain rfl : a = 0 := Fin.ext (by omega)
  show (outsAt0 m c t.val t.isLt).2.2.2.2.1 (ix3 0 q d) = (resKs (argK m c)) ((win0_7.rect t).emb (ix3 0 q d))
  rw [emb_7, at7 m c q d t.val t.isLt, (flush0_7 t).mp hf]
  exact if_pos (by omega)

/-- The blocks written back are the whole of the key scales. -/
theorem all7 (i : S3x896x4.Idx) : ∃ t : Fin cfg0.N, (cfg0.win 7).flush t = true ∧ i ∈ ((cfg0.win 7).blk t).view.set := by
  have h0 : (i 0).val < 3 := (i 0).isLt
  have h2 : (i 2).val < 4 := (i 2).isLt
  obtain ⟨t, ht⟩ : ∃ t : Fin cfg0.N, t.val = 4 * (i 0).val + 3 := ⟨⟨4 * (i 0).val + 3, by rw [N12]; omega⟩, rfl⟩
  have e : (win0_7.rect t).emb (ix3 0 (i 1) (i 2)) = i := by
    refine (emb_7 _ 0 (i 1) _).trans ?_
    funext b; apply Fin.ext
    match b with
    | 0 => show t.val / 4 = (i 0).val; omega
    | 1 => rfl
    | 2 => rfl
  refine ⟨t, (flush0_7 _).mpr (by show t.val % 4 = 3; omega), ?_⟩
  show i ∈ ((View.whole main_v0_4).slice (win0_7.rect t)).set
  rw [View.set_slice_whole, ← e]
  exact (win0_7.rect t).idx_mem _

/-- The array of the key scales at the end. -/
theorem final7 : (dats m 0 c).arrAt 7 cfg0.N = resKs (argK m c) :=
  (dats m 0 c).arrAt_eq_of_cover 7 (resKs (argK m c)) (wrote7 m c) all7

/-- Where a place of a block of the value scales sits. -/
theorem emb_9 (t : Fin cfg0.N) (a : Fin 1) (q : Fin 896) (d : Fin 4) :
    (win0_9.rect t).emb (ix3 a q d) = (ix3 (bt t) q d : S3x896x4.Idx) := by
  obtain ⟨h0, h1, h2⟩ := idx9 t
  funext b; apply Fin.ext
  refine (win0_9.rect_emb_val t _ b).trans ?_
  match b with
  | 0 => rw [h0]; show t.val / 4 * 1 + a.val = t.val / 4; omega
  | 1 => rw [h1]; show 0 * 896 + q.val = q.val; omega
  | 2 => rw [h2]; show 0 * 4 + d.val = d.val; omega

/-- What a point writes back of the value scales. -/
theorem wrote9 (t : Fin cfg0.N) (hf : (cfg0.win 9).flush t = true) :
    (dats m 0 c).flushed 9 t = ((cfg0.win 9).blk t).view.read (Elt Ideal) (resKs (argV m c)) := by
  rw [flushed9]
  funext y
  change S1x896x4.Idx at y
  obtain ⟨a, q, d, rfl⟩ : ∃ (a : Fin 1) (q : Fin 896) (d : Fin 4), y = ix3 a q d := ⟨y 0, y 1, y 2, ValueIdx.eq_ix3 y⟩
  obtain rfl : a = 0 := Fin.ext (by omega)
  show (outsAt0 m c t.val t.isLt).2.2.2.2.2.2 (ix3 0 q d) = (resKs (argV m c)) ((win0_9.rect t).emb (ix3 0 q d))
  rw [emb_9, at9 m c q d t.val t.isLt, (flush0_9 t).mp hf]
  exact if_pos (by omega)

/-- The blocks written back are the whole of the value scales. -/
theorem all9 (i : S3x896x4.Idx) : ∃ t : Fin cfg0.N, (cfg0.win 9).flush t = true ∧ i ∈ ((cfg0.win 9).blk t).view.set := by
  have h0 : (i 0).val < 3 := (i 0).isLt
  have h2 : (i 2).val < 4 := (i 2).isLt
  obtain ⟨t, ht⟩ : ∃ t : Fin cfg0.N, t.val = 4 * (i 0).val + 3 := ⟨⟨4 * (i 0).val + 3, by rw [N12]; omega⟩, rfl⟩
  have e : (win0_9.rect t).emb (ix3 0 (i 1) (i 2)) = i := by
    refine (emb_9 _ 0 (i 1) _).trans ?_
    funext b; apply Fin.ext
    match b with
    | 0 => show t.val / 4 = (i 0).val; omega
    | 1 => rfl
    | 2 => rfl
  refine ⟨t, (flush0_9 _).mpr (by show t.val % 4 = 3; omega), ?_⟩
  show i ∈ ((View.whole main_v0_6).slice (win0_9.rect t)).set
  rw [View.set_slice_whole, ← e]
  exact (win0_9.rect t).idx_mem _

/-- The array of the value scales at the end. -/
theorem final9 : (dats m 0 c).arrAt 9 cfg0.N = resKs (argV m c) :=
  (dats m 0 c).arrAt_eq_of_cover 9 (resKs (argV m c)) (wrote9 m c) all9

end Cert.KernelIdeal.Arrays
-- ==== Proof.RefQuant.lean ====
/- The reference's quantiser, at an index: the three arguments' rows. -/
module

public import proofs.«01_k».proof.Proof.Final
public import proofs.«01_k».proof.Proof.Gen.ReferenceIdeal.Read

@[expose] public section

set_option maxRecDepth 16384

noncomputable section

namespace Cert.ReferenceIdeal.Quant

open Idealize.ShloMosaic Idealize.ShloMosaic.TcCoe
open Cert.ReferenceIdeal Cert.ReferenceIdeal.Read
open Cert.Scal
open Cert.KernelIdeal.Arrays (headQ headK)
open Cert.KernelIdeal.Vocab (rowA codeS)

theorem select_oeq {α : Type} (a b : EReal) (x y : α) :
    Scalar.select (FloatOps.cmpf (F := Ideal) (φ := .f32) .oeq a b) x y = if a = b then x else y := by
  show Scalar.select (BitVec.ofBool (decide (a = b))) x y = _
  by_cases h : a = b
  · rw [if_pos h, decide_eq_true h]; rfl
  · rw [if_neg h, decide_eq_false h]; rfl

/-- Clipping as the reference writes it. -/
theorem clip_eq (z : EReal) :
    FloatOps.minimumf (F := Ideal) (φ := .f32) (FloatOps.ofBits .f32 0x43E00000#32) (FloatOps.maximumf (F := Ideal) (φ := .f32) (FloatOps.ofBits .f32 0xC3E00000#32) z) = clipS z := by
  have h1 : (FloatOps.ofBits (F := Ideal) .f32 0x43E00000#32 : EReal) = ((448 : ℝ) : EReal) := Consts.hi
  have h2 : (FloatOps.ofBits (F := Ideal) .f32 0xC3E00000#32 : EReal) = ((-448 : ℝ) : EReal) := Consts.lo
  rw [h1, h2]
  show min ((448 : ℝ) : EReal) (max ((-448 : ℝ) : EReal) z) = _
  unfold clipS
  rw [min_comm, max_comm]

/-- Two to the exponent, as the reference writes it. -/
theorem pow_eq (e : EReal) : FloatOps.hostPowf (F := Ideal) (φ := .f32) (FloatOps.ofBits .f32 0x40000000#32) e = Ideal.pow ((2 : ℝ) : EReal) e := by
  have h2 : (FloatOps.ofBits (F := Ideal) .f32 0x40000000#32 : EReal) = ((2 : ℝ) : EReal) := Consts.two
  rw [h2]; rfl

/-- The exponent of the row, as the reference computes it from the row's largest magnitude. -/
theorem expo_eq (a : EReal) :
    Scalar.select (FloatOps.cmpf (F := Ideal) (φ := .f32) .oeq a (FloatOps.ofBits .f32 0x00000000#32)) (FloatOps.ofBits (F := Ideal) .f32 0x00000000#32)
      (FloatOps.addf (F := Ideal) (φ := .f32) (FloatOps.hostUnary (F := Ideal) (φ := .f32) .floor (FloatOps.hostDivf (F := Ideal) (φ := .f32)
        (FloatOps.hostUnary (F := Ideal) (φ := .f32) .log (FloatOps.mulf (F := Ideal) (φ := .f32) a (FloatOps.ofBits .f32 0x3B124925#32)))
        (FloatOps.hostUnary (F := Ideal) (φ := .f32) .log (FloatOps.ofBits .f32 0x40000000#32)))) (FloatOps.ofBits .f32 0x3F800000#32)) = expoR a := by
  have hz : (FloatOps.ofBits (F := Ideal) .f32 0x00000000#32 : EReal) = 0 := Consts.zero
  have h2 : (FloatOps.ofBits (F := Ideal) .f32 0x40000000#32 : EReal) = ((2 : ℝ) : EReal) := Consts.two
  have h1 : (FloatOps.ofBits (F := Ideal) .f32 0x3F800000#32 : EReal) = ((1 : ℝ) : EReal) := Consts.one
  have hc : (FloatOps.ofBits (F := Ideal) .f32 0x3B124925#32 : EReal) = ((9586981 / 2 ^ 32 : ℝ) : EReal) := Consts.c448
  rw [hz, h2, h1, hc]
  unfold expoR
  exact select_oeq a 0 _ _

/-- The largest along the last axis. -/
theorem max8 (x : FVec Ideal S3x896x8x256 .f32) (init : FVec Ideal S_ .f32) (b : Fin 3) (q : Fin 896) (h : Fin 8) :
    Host.reduce FloatOps.maximumf x init Facts₀.reducesTo_S3x896x8x256_S3x896x8_d3 Facts₀.h_S_ (ix3 b q h) =
      Finset.fold max (init (Shape.Idx.first Facts₀.h_S_)) (fun d : Fin 256 => x (ix4 b q h d)) Finset.univ := by
  simp only [pointwise]

/-- The largest along the last axis. -/
theorem max4 (x : FVec Ideal S3x896x4x256 .f32) (init : FVec Ideal S_ .f32) (b : Fin 3) (q : Fin 896) (h : Fin 4) :
    Host.reduce FloatOps.maximumf x init Facts₀.reducesTo_S3x896x4x256_S3x896x4_d3 Facts₀.h_S_ (ix3 b q h) =
      Finset.fold max (init (Shape.Idx.first Facts₀.h_S_)) (fun d : Fin 256 => x (ix4 b q h d)) Finset.univ := by
  simp only [pointwise]

section x

variable (x0 : S3x896x2048.Idx → EReal)

/-- The rows of the queries. -/
theorem x_row (b : Fin 3) (q : Fin 896) (h : Fin 8) (d : Fin 256) : val_main_v1 (F := Ideal) x0 (ix4 b q h d) = headQ x0 b h q d := by
  rw [val_main_v1_apply, val_main_v0_apply]
  show x0 _ = x0 _
  refine congrArg x0 ?_
  funext a; apply Fin.ext
  match a with
  | ⟨0, _⟩ => show (((b.val * 896 + q.val) * 8 + h.val) * 256 + d.val) / 1835008 = b.val; omega
  | ⟨1, _⟩ => show (((b.val * 896 + q.val) * 8 + h.val) * 256 + d.val) / 2048 % 896 = q.val; omega
  | ⟨2, _⟩ => show (((b.val * 896 + q.val) * 8 + h.val) * 256 + d.val) % 2048 = 256 * h.val + d.val; omega

/-- The largest magnitude of a row of the queries. -/
theorem x_amax (b : Fin 3) (q : Fin 896) (h : Fin 8) : val_main_v3 (F := Ideal) x0 (ix3 b q h) = rowA (headQ x0 b h q) := by
  unfold val_main_v3
  refine (max8 _ _ b q h).trans ?_
  have e : (val_main_cst (F := Ideal)) (Shape.Idx.first Facts₀.h_S_) = (⊥ : EReal) := Consts.ninf
  rw [e]
  refine congrArg (fun f => Finset.univ.sup f) (funext fun d => ?_)
  rw [val_main_v2_apply, x_row]; rfl

/-- The exponent of a row of the queries. -/
theorem x_expo (b : Fin 3) (q : Fin 896) (h : Fin 8) : val_main_v16 (F := Ideal) x0 (ix4 b q h 0) = expoR (rowA (headQ x0 b h q)) := by
  have e : idx_main_v4 (ix4 b q h (0 : Fin 1)) = ix3 b q h := by
    funext a; match a with
    | ⟨0, _⟩ => rfl
    | ⟨1, _⟩ => rfl
    | ⟨2, _⟩ => rfl
  rw [val_main_v16_apply, val_main_v15_apply, val_main_call0_v1_apply, val_main_call0_v0_apply, val_main_cst_4_apply, val_main_v13_apply, val_main_v11_apply,
    val_main_v10_apply, val_main_v7_apply, val_main_v6_apply, val_main_v5_apply, val_main_cst_0_apply, val_main_v9_apply, val_main_v8_apply, val_main_cst_1_apply, val_main_v12_apply, val_main_cst_2_apply, val_main_v14_apply,
    val_main_cst_3_apply, val_main_v4_apply, e, x_amax]
  exact expo_eq _

/-- The scale of a row of the queries. -/
theorem x_scale (y : S3x896x8.Idx) : val_main_v25 (F := Ideal) x0 y = scaleR (rowA (headQ x0 (y 0) (y 2) (y 1))) := by
  obtain ⟨b, q, h, rfl⟩ : ∃ (b : Fin 3) (q : Fin 896) (h : Fin 8), y = ix3 b q h := ⟨y 0, y 1, y 2, ValueIdx.eq_ix3 y⟩
  have e : idx_main_v25 (ix3 b q h) = ix4 b q h (0 : Fin 1) := by
    funext a; apply Fin.ext
    match a with
    | ⟨0, _⟩ => show ((b.val * 896 + q.val) * 8 + h.val) / 7168 = b.val; omega
    | ⟨1, _⟩ => show ((b.val * 896 + q.val) * 8 + h.val) / 8 % 896 = q.val; omega
    | ⟨2, _⟩ => show ((b.val * 896 + q.val) * 8 + h.val) / 1 % 8 = h.val; omega
    | ⟨3, _⟩ => rfl
  rw [val_main_v25_apply, e, val_main_v18_apply, val_main_v17_apply, val_main_cst_5_apply, x_expo, pow_eq]
  rfl

/-- A code of the queries. -/
theorem x_code (b : Fin 3) (q : Fin 896) (h : Fin 8) (d : Fin 256) :
    val_main_v24 (F := Ideal) x0 (ix4 b q h d) = clipS (headQ x0 b h q d * invR (rowA (headQ x0 b h q))) := by
  have e : idx_main_v22 (ix4 b q h d) = ix4 b q h (0 : Fin 1) := by
    funext a; match a with
    | ⟨0, _⟩ => rfl
    | ⟨1, _⟩ => rfl
    | ⟨2, _⟩ => rfl
    | ⟨3, _⟩ => rfl
  have ei : val_main_v21 (F := Ideal) x0 (ix4 b q h 0) = invR (rowA (headQ x0 b h q)) := by
    rw [val_main_v21_apply, val_main_v20_apply, val_main_cst_6_apply, val_main_v19_apply, x_expo, pow_eq]
    rfl
  rw [val_main_v24_apply, val_main_call1_v4_apply, val_main_call1_v3_apply, val_main_cst_8_apply, val_main_call1_v2_apply, val_main_call1_v1_apply,
    val_main_call1_v0_apply, val_main_cst_7_apply, val_main_v23_apply, val_main_v22_apply, e, ei, x_row]
  exact clip_eq _

/-- The codes of the queries, as a result. -/
theorem x_codes (y : S3x896x2048.Idx) : val_main_v154 (F := Ideal) x0 y =
    clipS (headQ x0 (y 0) (Cert.KernelIdeal.Arrays.hq (y 2)) (y 1) (Cert.KernelIdeal.Arrays.dq (y 2)) * invR (rowA (headQ x0 (y 0) (Cert.KernelIdeal.Arrays.hq (y 2)) (y 1)))) := by
  obtain ⟨b, q, l, rfl⟩ : ∃ (b : Fin 3) (q : Fin 896) (l : Fin 2048), y = ix3 b q l := ⟨y 0, y 1, y 2, ValueIdx.eq_ix3 y⟩
  have e : idx_main_v153 (ix3 b q l) = ix4 b q (Cert.KernelIdeal.Arrays.hq l) (Cert.KernelIdeal.Arrays.dq l) := by
    funext a; apply Fin.ext
    match a with
    | ⟨0, _⟩ => show ((b.val * 896 + q.val) * 2048 + l.val) / 1835008 = b.val; omega
    | ⟨1, _⟩ => show ((b.val * 896 + q.val) * 2048 + l.val) / 2048 % 896 = q.val; omega
    | ⟨2, _⟩ => show ((b.val * 896 + q.val) * 2048 + l.val) / 256 % 8 = l.val / 256; omega
    | ⟨3, _⟩ => show ((b.val * 896 + q.val) * 2048 + l.val) % 256 = l.val % 256; omega
  rw [val_main_v154_apply, val_main_v153_apply, e, x_code]
  rfl

end x

section k

variable (x1 : S3x896x1024.Idx → EReal)

/-- The rows of the keys. -/
theorem k_row (b : Fin 3) (q : Fin 896) (h : Fin 4) (d : Fin 256) : val_main_v27 (F := Ideal) x1 (ix4 b q h d) = headK x1 b h q d := by
  rw [val_main_v27_apply, val_main_v26_apply]
  show x1 _ = x1 _
  refine congrArg x1 ?_
  funext a; apply Fin.ext
  match a with
  | ⟨0, _⟩ => show (((b.val * 896 + q.val) * 4 + h.val) * 256 + d.val) / 917504 = b.val; omega
  | ⟨1, _⟩ => show (((b.val * 896 + q.val) * 4 + h.val) * 256 + d.val) / 1024 % 896 = q.val; omega
  | ⟨2, _⟩ => show (((b.val * 896 + q.val) * 4 + h.val) * 256 + d.val) % 1024 = 256 * h.val + d.val; omega

/-- The largest magnitude of a row of the keys. -/
theorem k_amax (b : Fin 3) (q : Fin 896) (h : Fin 4) : val_main_v29 (F := Ideal) x1 (ix3 b q h) = rowA (headK x1 b h q) := by
  unfold val_main_v29
  refine (max4 _ _ b q h).trans ?_
  have e : (val_main_cst_9 (F := Ideal)) (Shape.Idx.first Facts₀.h_S_) = (⊥ : EReal) := Consts.ninf
  rw [e]
  refine congrArg (fun f => Finset.univ.sup f) (funext fun d => ?_)
  rw [val_main_v28_apply, k_row]; rfl

/-- The exponent of a row of the keys. -/
theorem k_expo (b : Fin 3) (q : Fin 896) (h : Fin 4) : val_main_v42 (F := Ideal) x1 (ix4 b q h 0) = expoR (rowA (headK x1 b h q)) := by
  have e : idx_main_v30 (ix4 b q h (0 : Fin 1)) = ix3 b q h := by
    funext a; match a with
    | ⟨0, _⟩ => rfl
    | ⟨1, _⟩ => rfl
    | ⟨2, _⟩ => rfl
  rw [val_main_v42_apply, val_main_v41_apply, val_main_call2_v1_apply, val_main_call2_v0_apply, val_main_cst_14_apply, val_main_v39_apply, val_main_v37_apply,
    val_main_v36_apply, val_main_v33_apply, val_main_v32_apply, val_main_v31_apply, val_main_cst_10_apply, val_main_v35_apply, val_main_v34_apply, val_main_cst_11_apply, val_main_v38_apply, val_main_cst_12_apply, val_main_v40_apply,
    val_main_cst_13_apply, val_main_v30_apply, e, k_amax]
  exact expo_eq _

/-- The scale of a row of the keys. -/
theorem k_scale (y : S3x896x4.Idx) : val_main_v51 (F := Ideal) x1 y = scaleR (rowA (headK x1 (y 0) (y 2) (y 1))) := by
  obtain ⟨b, q, h, rfl⟩ : ∃ (b : Fin 3) (q : Fin 896) (h : Fin 4), y = ix3 b q h := ⟨y 0, y 1, y 2, ValueIdx.eq_ix3 y⟩
  have e : idx_main_v51 (ix3 b q h) = ix4 b q h (0 : Fin 1) := by
    funext a; apply Fin.ext
    match a with
    | ⟨0, _⟩ => show ((b.val * 896 + q.val) * 4 + h.val) / 3584 = b.val; omega
    | ⟨1, _⟩ => show ((b.val * 896 + q.val) * 4 + h.val) / 4 % 896 = q.val; omega
    | ⟨2, _⟩ => show ((b.val * 896 + q.val) * 4 + h.val) / 1 % 4 = h.val; omega
    | ⟨3, _⟩ => rfl
  rw [val_main_v51_apply, e, val_main_v44_apply, val_main_v43_apply, val_main_cst_15_apply, k_expo, pow_eq]
  rfl

/-- A code of the keys. -/
theorem k_code (b : Fin 3) (q : Fin 896) (h : Fin 4) (d : Fin 256) :
    val_main_v50 (F := Ideal) x1 (ix4 b q h d) = clipS (headK x1 b h q d * invR (rowA (headK x1 b h q))) := by
  have e : idx_main_v48 (ix4 b q h d) = ix4 b q h (0 : Fin 1) := by
    funext a; match a with
    | ⟨0, _⟩ => rfl
    | ⟨1, _⟩ => rfl
    | ⟨2, _⟩ => rfl
    | ⟨3, _⟩ => rfl
  have ei : val_main_v47 (F := Ideal) x1 (ix4 b q h 0) = invR (rowA (headK x1 b h q)) := by
    rw [val_main_v47_apply, val_main_v46_apply, val_main_cst_16_apply, val_main_v45_apply, k_expo, pow_eq]
    rfl
  rw [val_main_v50_apply, val_main_call3_v4_apply, val_main_call3_v3_apply, val_main_cst_18_apply, val_main_call3_v2_apply, val_main_call3_v1_apply,
    val_main_call3_v0_apply, val_main_cst_17_apply, val_main_v49_apply, val_main_v48_apply, e, ei, k_row]
  exact clip_eq _

/-- The codes of the keys, as a result. -/
theorem k_codes (y : S3x896x1024.Idx) : val_main_v156 (F := Ideal) x1 y =
    clipS (headK x1 (y 0) (Cert.KernelIdeal.Arrays.hk (y 2)) (y 1) (Cert.KernelIdeal.Arrays.dk (y 2)) * invR (rowA (headK x1 (y 0) (Cert.KernelIdeal.Arrays.hk (y 2)) (y 1)))) := by
  obtain ⟨b, q, l, rfl⟩ : ∃ (b : Fin 3) (q : Fin 896) (l : Fin 1024), y = ix3 b q l := ⟨y 0, y 1, y 2, ValueIdx.eq_ix3 y⟩
  have e : idx_main_v155 (ix3 b q l) = ix4 b q (Cert.KernelIdeal.Arrays.hk l) (Cert.KernelIdeal.Arrays.dk l) := by
    funext a; apply Fin.ext
    match a with
    | ⟨0, _⟩ => show ((b.val * 896 + q.val) * 1024 + l.val) / 917504 = b.val; omega
    | ⟨1, _⟩ => show ((b.val * 896 + q.val) * 1024 + l.val) / 1024 % 896 = q.val; omega
    | ⟨2, _⟩ => show ((b.val * 896 + q.val) * 1024 + l.val) / 256 % 4 = l.val / 256; omega
    | ⟨3, _⟩ => show ((b.val * 896 + q.val) * 1024 + l.val) % 256 = l.val % 256; omega
  rw [val_main_v156_apply, val_main_v155_apply, e, k_code]
  rfl

end k

section v

variable (x2 : S3x896x1024.Idx → EReal)

/-- The rows of the values. -/
theorem v_row (b : Fin 3) (q : Fin 896) (h : Fin 4) (d : Fin 256) : val_main_v53 (F := Ideal) x2 (ix4 b q h d) = headK x2 b h q d := by
  rw [val_main_v53_apply, val_main_v52_apply]
  show x2 _ = x2 _
  refine congrArg x2 ?_
  funext a; apply Fin.ext
  match a with
  | ⟨0, _⟩ => show (((b.val * 896 + q.val) * 4 + h.val) * 256 + d.val) / 917504 = b.val; omega
  | ⟨1, _⟩ => show (((b.val * 896 + q.val) * 4 + h.val) * 256 + d.val) / 1024 % 896 = q.val; omega
  | ⟨2, _⟩ => show (((b.val * 896 + q.val) * 4 + h.val) * 256 + d.val) % 1024 = 256 * h.val + d.val; omega

/-- The largest magnitude of a row of the values. -/
theorem v_amax (b : Fin 3) (q : Fin 896) (h : Fin 4) : val_main_v55 (F := Ideal) x2 (ix3 b q h) = rowA (headK x2 b h q) := by
  unfold val_main_v55
  refine (max4 _ _ b q h).trans ?_
  have e : (val_main_cst_19 (F := Ideal)) (Shape.Idx.first Facts₀.h_S_) = (⊥ : EReal) := Consts.ninf
  rw [e]
  refine congrArg (fun f => Finset.univ.sup f) (funext fun d => ?_)
  rw [val_main_v54_apply, v_row]; rfl

/-- The exponent of a row of the values. -/
theorem v_expo (b : Fin 3) (q : Fin 896) (h : Fin 4) : val_main_v68 (F := Ideal) x2 (ix4 b q h 0) = expoR (rowA (headK x2 b h q)) := by
  have e : idx_main_v56 (ix4 b q h (0 : Fin 1)) = ix3 b q h := by
    funext a; match a with
    | ⟨0, _⟩ => rfl
    | ⟨1, _⟩ => rfl
    | ⟨2, _⟩ => rfl
  rw [val_main_v68_apply, val_main_v67_apply, val_main_call4_v1_apply, val_main_call4_v0_apply, val_main_cst_24_apply, val_main_v65_apply, val_main_v63_apply,
    val_main_v62_apply, val_main_v59_apply, val_main_v58_apply, val_main_v57_apply, val_main_cst_20_apply, val_main_v61_apply, val_main_v60_apply, val_main_cst_21_apply, val_main_v64_apply, val_main_cst_22_apply, val_main_v66_apply,
    val_main_cst_23_apply, val_main_v56_apply, e, v_amax]
  exact expo_eq _

/-- The scale of a row of the values. -/
theorem v_scale (y : S3x896x4.Idx) : val_main_v77 (F := Ideal) x2 y = scaleR (rowA (headK x2 (y 0) (y 2) (y 1))) := by
  obtain ⟨b, q, h, rfl⟩ : ∃ (b : Fin 3) (q : Fin 896) (h : Fin 4), y = ix3 b q h := ⟨y 0, y 1, y 2, ValueIdx.eq_ix3 y⟩
  have e : idx_main_v77 (ix3 b q h) = ix4 b q h (0 : Fin 1) := by
    funext a; apply Fin.ext
    match a with
    | ⟨0, _⟩ => show ((b.val * 896 + q.val) * 4 + h.val) / 3584 = b.val; omega
    | ⟨1, _⟩ => show ((b.val * 896 + q.val) * 4 + h.val) / 4 % 896 = q.val; omega
    | ⟨2, _⟩ => show ((b.val * 896 + q.val) * 4 + h.val) / 1 % 4 = h.val; omega
    | ⟨3, _⟩ => rfl
  rw [val_main_v77_apply, e, val_main_v70_apply, val_main_v69_apply, val_main_cst_25_apply, v_expo, pow_eq]
  rfl

/-- A code of the values. -/
theorem v_code (b : Fin 3) (q : Fin 896) (h : Fin 4) (d : Fin 256) :
    val_main_v76 (F := Ideal) x2 (ix4 b q h d) = clipS (headK x2 b h q d * invR (rowA (headK x2 b h q))) := by
  have e : idx_main_v74 (ix4 b q h d) = ix4 b q h (0 : Fin 1) := by
    funext a; match a with
    | ⟨0, _⟩ => rfl
    | ⟨1, _⟩ => rfl
    | ⟨2, _⟩ => rfl
    | ⟨3, _⟩ => rfl
  have ei : val_main_v73 (F := Ideal) x2 (ix4 b q h 0) = invR (rowA (headK x2 b h q)) := by
    rw [val_main_v73_apply, val_main_v72_apply, val_main_cst_26_apply, val_main_v71_apply, v_expo, pow_eq]
    rfl
  rw [val_main_v76_apply, val_main_call5_v4_apply, val_main_call5_v3_apply, val_main_cst_28_apply, val_main_call5_v2_apply, val_main_call5_v1_apply,
    val_main_call5_v0_apply, val_main_cst_27_apply, val_main_v75_apply, val_main_v74_apply, e, ei, v_row]
  exact clip_eq _

/-- The codes of the values, as a result. -/
theorem v_codes (y : S3x896x1024.Idx) : val_main_v158 (F := Ideal) x2 y =
    clipS (headK x2 (y 0) (Cert.KernelIdeal.Arrays.hk (y 2)) (y 1) (Cert.KernelIdeal.Arrays.dk (y 2)) * invR (rowA (headK x2 (y 0) (Cert.KernelIdeal.Arrays.hk (y 2)) (y 1)))) := by
  obtain ⟨b, q, l, rfl⟩ : ∃ (b : Fin 3) (q : Fin 896) (l : Fin 1024), y = ix3 b q l := ⟨y 0, y 1, y 2, ValueIdx.eq_ix3 y⟩
  have e : idx_main_v157 (ix3 b q l) = ix4 b q (Cert.KernelIdeal.Arrays.hk l) (Cert.KernelIdeal.Arrays.dk l) := by
    funext a; apply Fin.ext
    match a with
    | ⟨0, _⟩ => show ((b.val * 896 + q.val) * 1024 + l.val) / 917504 = b.val; omega
    | ⟨1, _⟩ => show ((b.val * 896 + q.val) * 1024 + l.val) / 1024 % 896 = q.val; omega
    | ⟨2, _⟩ => show ((b.val * 896 + q.val) * 1024 + l.val) / 256 % 4 = l.val / 256; omega
    | ⟨3, _⟩ => show ((b.val * 896 + q.val) * 1024 + l.val) % 256 = l.val % 256; omega
  rw [val_main_v158_apply, val_main_v157_apply, e, v_code]
  rfl

end v

end Cert.ReferenceIdeal.Quant
-- ==== Proof.RefAttn.lean ====
/- The reference's attention, at an index: one row's score, weight, largest weight and result. -/
module

public import proofs.«01_k».proof.Proof.RefQuant

@[expose] public section

set_option maxRecDepth 16384

noncomputable section

namespace Cert.ReferenceIdeal.Attn

open Idealize.ShloMosaic Idealize.ShloMosaic.TcCoe
open Cert.ReferenceIdeal Cert.ReferenceIdeal.Read Cert.ReferenceIdeal.Quant
open Cert.Scal
open Cert.KernelIdeal.Arrays (headQ headK)
open Cert.KernelIdeal.Vocab (rowA codeS)

/-- The query head of a key-value head and a place in its group. -/
abbrev hd (h : Fin 4) (g : Fin 2) : Fin 8 := ⟨2 * h.val + g.val, by omega⟩

/-- A code as the reference computes it. -/
def rCo {n : ℕ} (T : Fin n → Fin 256 → EReal) (k : Fin n) (d : Fin 256) : EReal := clipS (T k d * invR (rowA (T k)))
/-- A scale as the reference computes it. -/
def rSc {n : ℕ} (T : Fin n → Fin 256 → EReal) (k : Fin n) : EReal := scaleR (rowA (T k))

/-- The score before the cap. -/
def preS (X K : Fin 896 → Fin 256 → EReal) (q k : Fin 896) : EReal :=
  Ideal.div ((∑ d, rCo X q d * rCo K k d) * rSc X q * rSc K k * ((1 / 16 : ℝ) : EReal)) ((50 : ℝ) : EReal)

/-- The capped score. -/
def capS (X K : Fin 896 → Fin 256 → EReal) (q k : Fin 896) : EReal := ((50 : ℝ) : EReal) * Ideal.tanh (preS X K q k)

section

variable (x0 : S3x896x2048.Idx → EReal) (x1 x2 : S3x896x1024.Idx → EReal)
variable (b : Fin 3) (h : Fin 4) (g : Fin 2) (q k : Fin 896) (d : Fin 256)

theorem q_code : val_main_v79 (F := Ideal) x0 (ix5 b h g q d) = rCo (headQ x0 b (hd h g)) q d := by
  have e : idx_main_v78 (idx_main_v79 (ix5 b h g q d)) = ix4 b q (hd h g) d := by
    funext a; apply Fin.ext
    match a with
    | ⟨0, _⟩ => show ((((b.val * 896 + q.val) * 4 + h.val) * 2 + g.val) * 256 + d.val) / 1835008 = b.val; omega
    | ⟨1, _⟩ => show ((((b.val * 896 + q.val) * 4 + h.val) * 2 + g.val) * 256 + d.val) / 2048 % 896 = q.val; omega
    | ⟨2, _⟩ => show ((((b.val * 896 + q.val) * 4 + h.val) * 2 + g.val) * 256 + d.val) / 256 % 8 = 2 * h.val + g.val; omega
    | ⟨3, _⟩ => show ((((b.val * 896 + q.val) * 4 + h.val) * 2 + g.val) * 256 + d.val) % 256 = d.val; omega
  rw [val_main_v79_apply, val_main_v78_apply, e, x_code]
  rfl

theorem k_codeT : val_main_v80 (F := Ideal) x1 (ix4 b h k d) = rCo (headK x1 b h) k d := by
  have e : idx_main_v80 (ix4 b h k d) = ix4 b k h d := by
    funext a; match a with
    | ⟨0, _⟩ => rfl
    | ⟨1, _⟩ => rfl
    | ⟨2, _⟩ => rfl
    | ⟨3, _⟩ => rfl
  rw [val_main_v80_apply, e, k_code]
  rfl

theorem v_codeT : val_main_v81 (F := Ideal) x2 (ix4 b h k d) = rCo (headK x2 b h) k d := by
  have e : idx_main_v81 (ix4 b h k d) = ix4 b k h d := by
    funext a; match a with
    | ⟨0, _⟩ => rfl
    | ⟨1, _⟩ => rfl
    | ⟨2, _⟩ => rfl
    | ⟨3, _⟩ => rfl
  rw [val_main_v81_apply, e, v_code]
  rfl

theorem q_scaleB : val_main_v90 (F := Ideal) x0 (ix5 b h g q k) = rSc (headQ x0 b (hd h g)) q := by
  have e : idx_main_v82 (idx_main_v83 (idx_main_v84 (idx_main_v90 (ix5 b h g q k)))) = ix3 b q (hd h g) := by
    funext a; apply Fin.ext
    match a with
    | ⟨0, _⟩ => show (((b.val * 896 + q.val) * 4 + h.val) * 2 + g.val) / 7168 = b.val; omega
    | ⟨1, _⟩ => show (((b.val * 896 + q.val) * 4 + h.val) * 2 + g.val) / 8 % 896 = q.val; omega
    | ⟨2, _⟩ => show (((b.val * 896 + q.val) * 4 + h.val) * 2 + g.val) % 8 = 2 * h.val + g.val; omega
  rw [val_main_v90_apply, val_main_v84_apply, val_main_v83_apply, val_main_v82_apply, e, x_scale]
  rfl

theorem k_scaleB : val_main_v92 (F := Ideal) x1 (ix5 b h g q k) = rSc (headK x1 b h) k := by
  have e : idx_main_v85 (idx_main_v86 (idx_main_v92 (ix5 b h g q k))) = ix3 b k h := by
    funext a; match a with
    | ⟨0, _⟩ => rfl
    | ⟨1, _⟩ => rfl
    | ⟨2, _⟩ => rfl
  rw [val_main_v92_apply, val_main_v86_apply, val_main_v85_apply, e, k_scale]
  rfl

theorem v_scaleB : val_main_v118 (F := Ideal) x2 (ix5 b h g q k) = rSc (headK x2 b h) k := by
  have e : idx_main_v87 (idx_main_v88 (idx_main_v118 (ix5 b h g q k))) = ix3 b k h := by
    funext a; match a with
    | ⟨0, _⟩ => rfl
    | ⟨1, _⟩ => rfl
    | ⟨2, _⟩ => rfl
  rw [val_main_v118_apply, val_main_v88_apply, val_main_v87_apply, e, v_scale]
  rfl

/-- The score before the cap. -/
theorem pre_at : val_main_v97 (F := Ideal) x0 x1 (ix5 b h g q k) = preS (headQ x0 b (hd h g)) (headK x1 b h) q k := by
  have hs : val_main_v89 (F := Ideal) x0 x1 (ix5 b h g q k) = ∑ d, rCo (headQ x0 b (hd h g)) q d * rCo (headK x1 b h) k d := by
    rw [val_main_v89_apply]
    refine Finset.sum_congr rfl fun d _ => ?_
    have el : lidx_main_v89 (ix5 b h g q k) d = ix5 b h g q d := by
      funext a; match a with
      | ⟨0, _⟩ => rfl
      | ⟨1, _⟩ => rfl
      | ⟨2, _⟩ => rfl
      | ⟨3, _⟩ => rfl
      | ⟨4, _⟩ => rfl
    have er : ridx_main_v89 (ix5 b h g q k) d = ix4 b h k d := by
      funext a; match a with
      | ⟨0, _⟩ => rfl
      | ⟨1, _⟩ => rfl
      | ⟨2, _⟩ => rfl
      | ⟨3, _⟩ => rfl
    rw [el, er, q_code, k_codeT]
  have h1 : (FloatOps.ofBits (F := Ideal) .f32 0x3D800000#32 : EReal) = ((1 / 16 : ℝ) : EReal) := Consts.sixteenth
  have h2 : (FloatOps.ofBits (F := Ideal) .f32 0x42480000#32 : EReal) = ((50 : ℝ) : EReal) := Consts.fifty
  rw [val_main_v97_apply, val_main_v95_apply, val_main_v93_apply, val_main_v91_apply, hs, q_scaleB, k_scaleB, val_main_v94_apply,
    val_main_cst_29_apply, val_main_v96_apply, val_main_cst_30_apply, h1, h2]
  rfl

/-- The capped score. -/
theorem cap_at : val_main_v100 (F := Ideal) x0 x1 (ix5 b h g q k) = capS (headQ x0 b (hd h g)) (headK x1 b h) q k := by
  have h2 : (FloatOps.ofBits (F := Ideal) .f32 0x42480000#32 : EReal) = ((50 : ℝ) : EReal) := Consts.fifty
  rw [val_main_v100_apply, val_main_v99_apply, val_main_cst_31_apply, h2, val_main_v98_apply, pre_at]
  rfl

/-- Words of numbers below 896 compare as the numbers do. -/
theorem sle_word : IntOp.cmpi .sle (BitVec.ofNat 32 k.val) (BitVec.ofNat 32 q.val) = BitVec.ofBool (decide (k.val ≤ q.val)) := by
  have hk := k.isLt
  have hq := q.isLt
  show BitVec.ofBool (BitVec.sle _ _) = _
  congr 1
  rw [BitVec.sle, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp only [Nat.cast_le]

/-- The causal mask. -/
theorem mask_at (y : S896x896.Idx) : val_main_v106 (F := Ideal) y = BitVec.ofBool (decide ((y 1).val ≤ (y 0).val)) := by
  rw [val_main_v106_apply, val_main_v104_apply, val_main_v102_apply, val_main_v101_apply, val_main_v105_apply, val_main_v103_apply, val_main_v101_apply]
  exact sle_word (y 0) (y 1)

theorem select_ofBool {α : Type} (p : Prop) [Decidable p] (x y : α) : Scalar.select (BitVec.ofBool (decide p)) x y = if p then x else y := by
  by_cases hp : p
  · rw [if_pos hp, decide_eq_true hp]; rfl
  · rw [if_neg hp, decide_eq_false hp]; rfl

/-- The masked score. -/
theorem msk_at : val_main_v109 (F := Ideal) x0 x1 (ix5 b h g q k) =
    if k.val ≤ q.val then capS (headQ x0 b (hd h g)) (headK x1 b h) q k else (⊥ : EReal) := by
  have hb : (FloatOps.ofBits (F := Ideal) .f32 0xFF800000#32 : EReal) = ⊥ := Consts.ninf
  rw [val_main_v109_apply, val_main_v107_apply, mask_at, cap_at, val_main_v108_apply, val_main_cst_32_apply, hb]
  exact select_ofBool _ _ _

/-- The largest along the last axis. -/
theorem max5 (x : FVec Ideal S3x4x2x896x896 .f32) (init : FVec Ideal S_ .f32) :
    Host.reduce FloatOps.maximumf x init Facts₀.reducesTo_S3x4x2x896x896_S3x4x2x896_d4 Facts₀.h_S_ (ix4 b h g q) =
      Finset.fold max (init (Shape.Idx.first Facts₀.h_S_)) (fun k : Fin 896 => x (ix5 b h g q k)) Finset.univ := by
  simp only [pointwise]

/-- The largest masked score. -/
theorem mx_at : val_main_v110 (F := Ideal) x0 x1 (ix4 b h g q) =
    Finset.univ.sup fun k : Fin 896 => if k.val ≤ q.val then capS (headQ x0 b (hd h g)) (headK x1 b h) q k else (⊥ : EReal) := by
  unfold val_main_v110
  refine (max5 b h g q _ _).trans ?_
  have e : (val_main_cst_33 (F := Ideal)) (Shape.Idx.first Facts₀.h_S_) = (⊥ : EReal) := Consts.ninf
  rw [e]
  refine congrArg (fun f => Finset.univ.sup f) (funext fun k => ?_)
  exact msk_at x0 x1 b h g q k

/-- The exponential of a score. -/
theorem exp_at : val_main_v115 (F := Ideal) x0 x1 (ix5 b h g q k) =
    refE (capS (headQ x0 b (hd h g)) (headK x1 b h) q) (fun k : Fin 896 => k.val ≤ q.val) k := by
  have hz : (FloatOps.ofBits (F := Ideal) .f32 0x00000000#32 : EReal) = ((0 : ℝ) : EReal) := Consts.zero
  have e : idx_main_v111 (idx_main_v112 (ix5 b h g q k)) = ix4 b h g q := by
    funext a; match a with
    | ⟨0, _⟩ => rfl
    | ⟨1, _⟩ => rfl
    | ⟨2, _⟩ => rfl
    | ⟨3, _⟩ => rfl
  rw [val_main_v115_apply, val_main_call6_v1_apply, mask_at, val_main_v114_apply, val_main_v113_apply, msk_at, val_main_v112_apply, val_main_v111_apply, e, mx_at,
    val_main_call6_v2_apply, val_main_call6_v0_apply, val_main_cst_34_apply, hz]
  refine (select_ofBool (k.val ≤ q.val) _ _).trans ?_
  unfold refE
  by_cases hk : k.val ≤ q.val
  · rw [if_pos hk, if_pos hk, if_pos hk]; rfl
  · rw [if_neg hk, if_neg hk]

/-- The sum of the exponentials. -/
theorem sum_at : val_main_v116 (F := Ideal) x0 x1 (ix4 b h g q) =
    ∑ k, refE (capS (headQ x0 b (hd h g)) (headK x1 b h) q) (fun k : Fin 896 => k.val ≤ q.val) k := by
  have hz : (val_main_cst_35 (F := Ideal)) (Shape.Idx.first Facts₀.h_S_) = (0 : EReal) := Consts.zero
  refine (val_main_v116_apply x0 x1 _).trans ?_
  rw [hz, zero_add]
  refine Finset.sum_congr rfl fun k _ => ?_
  have e : idx_main_v116 (ix4 b h g q) k = ix5 b h g q k := by
    funext a; match a with
    | ⟨0, _⟩ => rfl
    | ⟨1, _⟩ => rfl
    | ⟨2, _⟩ => rfl
    | ⟨3, _⟩ => rfl
    | ⟨4, _⟩ => rfl
  rw [e, exp_at]

/-- The weight of a key. -/
theorem wgt_at : val_main_v119 (F := Ideal) x0 x1 x2 (ix5 b h g q k) =
    refE (capS (headQ x0 b (hd h g)) (headK x1 b h) q) (fun k : Fin 896 => k.val ≤ q.val) k * rSc (headK x2 b h) k := by
  rw [val_main_v119_apply, exp_at, v_scaleB]
  rfl

/-- The largest weight of a row. -/
theorem wmx_at : val_main_v121 (F := Ideal) x0 x1 x2 (ix4 b h g q) =
    refA (capS (headQ x0 b (hd h g)) (headK x1 b h) q) (rSc (headK x2 b h)) (fun k : Fin 896 => k.val ≤ q.val) := by
  unfold val_main_v121
  refine (max5 b h g q _ _).trans ?_
  have e : (val_main_cst_36 (F := Ideal)) (Shape.Idx.first Facts₀.h_S_) = (⊥ : EReal) := Consts.ninf
  rw [e]
  refine congrArg (fun f => Finset.univ.sup f) (funext fun k => ?_)
  rw [val_main_v120_apply, wgt_at]; rfl

/-- The exponent of a row of weights. -/
theorem w_expo : val_main_v134 (F := Ideal) x0 x1 x2 (ix5 b h g q 0) =
    expoR (refA (capS (headQ x0 b (hd h g)) (headK x1 b h) q) (rSc (headK x2 b h)) (fun k : Fin 896 => k.val ≤ q.val)) := by
  have e : idx_main_v122 (ix5 b h g q (0 : Fin 1)) = ix4 b h g q := by
    funext a; match a with
    | ⟨0, _⟩ => rfl
    | ⟨1, _⟩ => rfl
    | ⟨2, _⟩ => rfl
    | ⟨3, _⟩ => rfl
  rw [val_main_v134_apply, val_main_v133_apply, val_main_call7_v1_apply, val_main_call7_v0_apply, val_main_cst_41_apply, val_main_v131_apply, val_main_v129_apply,
    val_main_v128_apply, val_main_v125_apply, val_main_v124_apply, val_main_v123_apply, val_main_cst_37_apply, val_main_v127_apply, val_main_v126_apply, val_main_cst_38_apply, val_main_v130_apply, val_main_cst_39_apply, val_main_v132_apply,
    val_main_cst_40_apply, val_main_v122_apply, e, wmx_at]
  exact expo_eq _

/-- A row of the result. -/
theorem row_at : val_main_v149 (F := Ideal) x0 x1 x2 (ix5 b h g q d) =
    refRow (capS (headQ x0 b (hd h g)) (headK x1 b h) q) (rSc (headK x2 b h)) (fun k => rCo (headK x2 b h) k d) (fun k : Fin 896 => k.val ≤ q.val) := by
  have hs : val_main_v144 (F := Ideal) x0 x1 x2 (ix5 b h g q d) = ∑ k, clipS (refE (capS (headQ x0 b (hd h g)) (headK x1 b h) q) (fun k : Fin 896 => k.val ≤ q.val) k * rSc (headK x2 b h) k *
      invR (refA (capS (headQ x0 b (hd h g)) (headK x1 b h) q) (rSc (headK x2 b h)) (fun k : Fin 896 => k.val ≤ q.val))) * rCo (headK x2 b h) k d := by
    rw [val_main_v144_apply]
    refine Finset.sum_congr rfl fun k _ => ?_
    have el : lidx_main_v144 (ix5 b h g q d) k = ix5 b h g q k := by
      funext a; match a with
      | ⟨0, _⟩ => rfl
      | ⟨1, _⟩ => rfl
      | ⟨2, _⟩ => rfl
      | ⟨3, _⟩ => rfl
      | ⟨4, _⟩ => rfl
    have er : ridx_main_v144 (ix5 b h g q d) k = ix4 b h k d := by
      funext a; match a with
      | ⟨0, _⟩ => rfl
      | ⟨1, _⟩ => rfl
      | ⟨2, _⟩ => rfl
      | ⟨3, _⟩ => rfl
    have ei : idx_main_v140 (ix5 b h g q k) = ix5 b h g q (0 : Fin 1) := by
      funext a; match a with
      | ⟨0, _⟩ => rfl
      | ⟨1, _⟩ => rfl
      | ⟨2, _⟩ => rfl
      | ⟨3, _⟩ => rfl
      | ⟨4, _⟩ => rfl
    rw [el, er, v_codeT]
    refine congrArg (· * _) ?_
    rw [val_main_v142_apply, val_main_call8_v4_apply, val_main_call8_v3_apply, val_main_cst_45_apply, val_main_call8_v2_apply, val_main_call8_v1_apply,
      val_main_call8_v0_apply, val_main_cst_44_apply, val_main_v141_apply, wgt_at, val_main_v140_apply, ei, val_main_v139_apply, val_main_v138_apply, val_main_cst_43_apply,
      val_main_v137_apply, w_expo, pow_eq]
    exact clip_eq _
  have hw : val_main_v146 (F := Ideal) x0 x1 x2 (ix5 b h g q d) = scaleR (refA (capS (headQ x0 b (hd h g)) (headK x1 b h) q) (rSc (headK x2 b h)) (fun k : Fin 896 => k.val ≤ q.val)) := by
    have e : idx_main_v143 (idx_main_v145 (idx_main_v146 (ix5 b h g q d))) = ix5 b h g q (0 : Fin 1) := by
      funext a; apply Fin.ext
      match a with
      | ⟨0, _⟩ => show (((b.val * 4 + h.val) * 2 + g.val) * 896 + q.val) / 7168 = b.val; omega
      | ⟨1, _⟩ => show (((b.val * 4 + h.val) * 2 + g.val) * 896 + q.val) / 1792 % 4 = h.val; omega
      | ⟨2, _⟩ => show (((b.val * 4 + h.val) * 2 + g.val) * 896 + q.val) / 896 % 2 = g.val; omega
      | ⟨3, _⟩ => show (((b.val * 4 + h.val) * 2 + g.val) * 896 + q.val) / 1 % 896 = q.val; omega
      | ⟨4, _⟩ => rfl
    rw [val_main_v146_apply, val_main_v145_apply, val_main_v143_apply, e, val_main_v136_apply, val_main_v135_apply, val_main_cst_42_apply, w_expo, pow_eq]
    rfl
  have hd' : val_main_v148 (F := Ideal) x0 x1 (ix5 b h g q d) = ∑ k, refE (capS (headQ x0 b (hd h g)) (headK x1 b h) q) (fun k : Fin 896 => k.val ≤ q.val) k := by
    have e : idx_main_v117 (idx_main_v148 (ix5 b h g q d)) = ix4 b h g q := by
      funext a; match a with
      | ⟨0, _⟩ => rfl
      | ⟨1, _⟩ => rfl
      | ⟨2, _⟩ => rfl
      | ⟨3, _⟩ => rfl
    rw [val_main_v148_apply, val_main_v117_apply, e, sum_at]
  rw [val_main_v149_apply, val_main_v147_apply, hs, hw, hd']
  rfl

end

/-- The attention, as a result. -/
theorem out_at (x0 : S3x896x2048.Idx → EReal) (x1 x2 : S3x896x1024.Idx → EReal) (b : Fin 3) (q : Fin 896) (l : Fin 2048) :
    val_main_v152 (F := Ideal) x0 x1 x2 (ix3 b q l) =
      refRow (capS (headQ x0 b (Cert.KernelIdeal.Arrays.hq l)) (headK x1 b (Cert.KernelIdeal.Arrays.hqk l)) q) (rSc (headK x2 b (Cert.KernelIdeal.Arrays.hqk l)))
        (fun k => rCo (headK x2 b (Cert.KernelIdeal.Arrays.hqk l)) k (Cert.KernelIdeal.Arrays.dq l)) (fun k : Fin 896 => k.val ≤ q.val) := by
  have e : idx_main_v150 (idx_main_v151 (ix3 b q l)) = ix5 b (Cert.KernelIdeal.Arrays.hqk l) (⟨l.val / 256 % 2, by omega⟩ : Fin 2) q (Cert.KernelIdeal.Arrays.dq l) := by
    funext a; apply Fin.ext
    match a with
    | ⟨0, _⟩ => show ((b.val * 896 + q.val) * 2048 + l.val) / 1835008 = b.val; omega
    | ⟨1, _⟩ => show ((b.val * 896 + q.val) * 2048 + l.val) / 512 % 4 = l.val / 512; omega
    | ⟨2, _⟩ => show ((b.val * 896 + q.val) * 2048 + l.val) / 256 % 2 = l.val / 256 % 2; omega
    | ⟨3, _⟩ => show ((b.val * 896 + q.val) * 2048 + l.val) / 2048 % 896 = q.val; omega
    | ⟨4, _⟩ => show ((b.val * 896 + q.val) * 2048 + l.val) % 256 = l.val % 256; omega
  have eh : hd (Cert.KernelIdeal.Arrays.hqk l) (⟨l.val / 256 % 2, by omega⟩ : Fin 2) = Cert.KernelIdeal.Arrays.hq l := by
    apply Fin.ext
    show 2 * (l.val / 512) + l.val / 256 % 2 = l.val / 256
    omega
  rw [val_main_v152_apply, val_main_v151_apply, val_main_v150_apply, e]
  refine (row_at x0 x1 x2 b _ _ q _).trans ?_
  rw [eh]

end Cert.ReferenceIdeal.Attn
-- ==== Proof.Pre.lean ====
/- The precondition, read back: every row's largest magnitude is zero or not below 2^-117, and every value is finite. -/
module

public import proofs.«01_k».proof.Proof.RefQuant
public import proofs.«01_k».proof.Pre_inputs_ok
public import Idealize.ShloMosaic.Lib.ReduceAll
public import Idealize.ShloMosaic.Lib.Pipeline.Value

@[expose] public section

set_option maxRecDepth 16384

noncomputable section

namespace Cert.Pre_inputs_ok

open Idealize.ShloMosaic Idealize.ShloMosaic.TcCoe
open Cert.Scal
open Cert.ReferenceIdeal.Quant
open Cert.ReferenceIdeal.Read (val_main_v3 val_main_v29 val_main_v55)
open Cert.KernelIdeal.Arrays (headQ headK)
open Cert.KernelIdeal.Vocab (rowA)

/-- The side conditions the precondition states. -/
theorem facts : Facts where
  bitsLt_bf16_f32 := by decide
  shapeCasts_S3x896x2048_S3x896x8x256 := by decide
  reducesTo_S3x896x8x256_S3x896x8_d3 := by decide
  h_S_ := by decide
  bcast_S_S3x896x8 := by decide
  shapeCasts_S3x896x1024_S3x896x4x256 := by decide
  reducesTo_S3x896x4x256_S3x896x4_d3 := by decide
  bcast_S_S3x896x4 := by decide
  concatenates_S3x896x8_S3x896x4_S3x896x4_S3x896x16_d2 := by decide
  reducesTo_S3x896x16_S_d0_1_2 := by decide
  bcast_S_S3x896x1024 := by decide
  reducesTo_S3x896x1024_S_d0_1_2 := by decide

instance instFacts : Facts := facts

section
variable {F : FTy → Type} [FloatOps F]

/-- The word of one row, from its largest magnitude. -/
def okF (a : F .f32) : BitVec 1 :=
  IntOp.ori (FloatOps.cmpf .oeq a (FloatOps.ofBits .f32 0x00000000#32)) (FloatOps.cmpf .oge a (FloatOps.ofBits .f32 0x05000000#32))

/-- The word of one value. -/
def finF (a : F .bf16) : BitVec 1 :=
  FloatOps.cmpf .olt (FloatOps.hostAbsf (FloatOps.extf .f32 Facts.bitsLt_bf16_f32 a)) (FloatOps.ofBits .f32 0x7F800000#32)

/-- Three words side by side. -/
def join3 (p : S3x896x8.Idx → BitVec 1) (q r : S3x896x4.Idx → BitVec 1) : S3x896x16.Idx → BitVec 1 :=
  concatenate S3x896x16 2 [⟨S3x896x8, p⟩, ⟨S3x896x4, q⟩, ⟨S3x896x4, r⟩] Facts.concatenates_S3x896x8_S3x896x4_S3x896x4_S3x896x16_d2

theorem part_eq (a2 : FVec F S3x896x1024 .bf16) (p : IVec S3x896x8 1) (q : IVec S3x896x4 1) :
    fn_part1 (F := F) a2 p q = fun j => IntOp.andi
      (Host.reduce IntOp.andi (join3 p q (fun i => okF (val_main_v55 (F := F) a2 i))) (constantI S_ 1 1#1) Facts.reducesTo_S3x896x16_S_d0_1_2 Facts.h_S_ j)
      (Host.reduce IntOp.andi (fun i => finF (a2 i)) (constantI S_ 1 1#1) Facts.reducesTo_S3x896x1024_S_d0_1_2 Facts.h_S_ j) := rfl

theorem fn_eq (a0 : FVec F S3x896x2048 .bf16) (a1 a2 : FVec F S3x896x1024 .bf16) :
    fn (F := F) a0 a1 a2 = fn_part1 (F := F) a2 (fun i => okF (val_main_v3 (F := F) a0 i)) (fun i => okF (val_main_v29 (F := F) a1 i)) := rfl

end

theorem okF_ok (a : EReal) (h : okF (F := Ideal) a = 1#1) : RowOk a := by
  have hz : (FloatOps.ofBits (F := Ideal) .f32 0x00000000#32 : EReal) = 0 := Consts.zero
  have ht : (FloatOps.ofBits (F := Ideal) .f32 0x05000000#32 : EReal) = ((1 / 2 ^ 117 : ℝ) : EReal) := Consts.thr
  unfold okF at h
  rw [hz, ht] at h
  rcases IntOp.ori_eq_one.1 h with h | h
  · left
    have h' : BitVec.ofBool (decide (a = 0)) = 1#1 := h
    by_contra hn
    rw [decide_eq_false hn] at h'
    exact absurd h' (by decide)
  · right
    have h' : BitVec.ofBool (decide (((1 / 2 ^ 117 : ℝ) : EReal) ≤ a)) = 1#1 := h
    by_contra hn
    rw [decide_eq_false hn] at h'
    exact absurd h' (by decide)

theorem finF_ok (a : EReal) (h : finF (F := Ideal) a = 1#1) : absS a < ⊤ := by
  have ht : (FloatOps.ofBits (F := Ideal) .f32 0x7F800000#32 : EReal) = ⊤ := Consts.pinf
  have h1 : FloatOps.cmpf (F := Ideal) (φ := .f32) .olt (absS a) (FloatOps.ofBits .f32 0x7F800000#32) = 1#1 := h
  rw [ht] at h1
  have h' : BitVec.ofBool (decide (absS a < ⊤)) = 1#1 := h1
  by_contra hn
  rw [decide_eq_false hn] at h'
  exact absurd h' (by decide)

theorem join3_p (p : S3x896x8.Idx → BitVec 1) (q r : S3x896x4.Idx → BitVec 1) (b : Fin 3) (n : Fin 896) (h : Fin 8) :
    join3 p q r (ix3 b n (⟨0 + h.val, by omega⟩ : Fin 16)) = p (ix3 b n h) := by
  refine concatenate_apply_piece (s₁ := S3x896x8) (x₁ := p) (2 : Fin S3x896x16.rank) [⟨S3x896x8, p⟩, ⟨S3x896x4, q⟩, ⟨S3x896x4, r⟩] Facts.concatenates_S3x896x8_S3x896x4_S3x896x4_S3x896x16_d2 _ 0 (Nat.lt_of_sub_pos (by exact Nat.succ_pos _)) rfl rfl 0 rfl (ix3 b n h) (fun d hd => ?_) rfl
  match d with
  | ⟨0, _⟩ => rfl
  | ⟨1, _⟩ => rfl
  | ⟨2, _⟩ => exact absurd rfl hd

theorem join3_q (p : S3x896x8.Idx → BitVec 1) (q r : S3x896x4.Idx → BitVec 1) (b : Fin 3) (n : Fin 896) (h : Fin 4) :
    join3 p q r (ix3 b n (⟨8 + h.val, by omega⟩ : Fin 16)) = q (ix3 b n h) := by
  refine concatenate_apply_piece (s₁ := S3x896x4) (x₁ := q) (2 : Fin S3x896x16.rank) [⟨S3x896x8, p⟩, ⟨S3x896x4, q⟩, ⟨S3x896x4, r⟩] Facts.concatenates_S3x896x8_S3x896x4_S3x896x4_S3x896x16_d2 _ 1 (Nat.lt_of_sub_pos (by exact Nat.succ_pos _)) rfl rfl 8 rfl (ix3 b n h) (fun d hd => ?_) rfl
  match d with
  | ⟨0, _⟩ => rfl
  | ⟨1, _⟩ => rfl
  | ⟨2, _⟩ => exact absurd rfl hd

theorem join3_r (p : S3x896x8.Idx → BitVec 1) (q r : S3x896x4.Idx → BitVec 1) (b : Fin 3) (n : Fin 896) (h : Fin 4) :
    join3 p q r (ix3 b n (⟨12 + h.val, by omega⟩ : Fin 16)) = r (ix3 b n h) := by
  refine concatenate_apply_piece (s₁ := S3x896x4) (x₁ := r) (2 : Fin S3x896x16.rank) [⟨S3x896x8, p⟩, ⟨S3x896x4, q⟩, ⟨S3x896x4, r⟩] Facts.concatenates_S3x896x8_S3x896x4_S3x896x4_S3x896x16_d2 _ 2 (Nat.lt_of_sub_pos (by exact Nat.succ_pos _)) rfl rfl 12 rfl (ix3 b n h) (fun d hd => ?_) rfl
  match d with
  | ⟨0, _⟩ => rfl
  | ⟨1, _⟩ => rfl
  | ⟨2, _⟩ => exact absurd rfl hd

instance : Subsingleton S_.Idx := ⟨fun y z => funext fun a => a.elim0⟩

/-- What the precondition says. -/
theorem decode (a0 : S3x896x2048.Idx → EReal) (a1 a2 : S3x896x1024.Idx → EReal) (h : fn (F := Ideal) a0 a1 a2 = fun _ => 1#1) :
    (∀ b hh q, RowOk (rowA (headQ a0 b hh q))) ∧ (∀ b hh q, RowOk (rowA (headK a1 b hh q))) ∧ (∀ b hh q, RowOk (rowA (headK a2 b hh q)))
      ∧ ∀ y, absS (a2 y) < ⊤ := by
  have e := congrFun ((((fn_eq (F := Ideal) a0 a1 a2).trans (part_eq (F := Ideal) a2 _ _))).symm.trans h) (Shape.Idx.first Facts.h_S_)
  obtain ⟨e1, e2⟩ := IntOp.andi_eq_one.1 e
  have r := Host.reduce_andi_all _ _ _ _ _ e1
  have f := Host.reduce_andi_all _ _ _ _ _ e2
  refine ⟨fun b hh q => ?_, fun b hh q => ?_, fun b hh q => ?_, fun y => finF_ok _ (f y)⟩
  · rw [← x_amax]
    have w := r (ix3 b q (⟨0 + hh.val, by omega⟩ : Fin 16))
    rw [join3_p] at w
    exact okF_ok _ w
  · rw [← k_amax]
    have w := r (ix3 b q (⟨8 + hh.val, by omega⟩ : Fin 16))
    rw [join3_q] at w
    exact okF_ok _ w
  · rw [← v_amax]
    have w := r (ix3 b q (⟨12 + hh.val, by omega⟩ : Fin 16))
    rw [join3_r] at w
    exact okF_ok _ w

end Cert.Pre_inputs_ok
-- ==== Proof.Join.lean ====
/- The kernel's results and the reference's are the same arrays, under the precondition. -/
module

public import proofs.«01_k».proof.Proof.RefAttn
public import proofs.«01_k».proof.Proof.Pre

@[expose] public section

set_option maxRecDepth 16384

noncomputable section

namespace Cert.Join

open Idealize.ShloMosaic Idealize.ShloMosaic.TcCoe
open Cert.ReferenceIdeal.Read Cert.ReferenceIdeal.Quant Cert.ReferenceIdeal.Attn
open Cert.Scal
open Cert.KernelIdeal.Arrays (headQ headK VOk resO resQc resQs resKc resKs hq hqk dq hk dk)
open Cert.KernelIdeal.Vocab (rowA codeS rowSc rowCo scoreS expS outS)

/-- A scale: the kernel's is the reference's. -/
theorem sc_eq (T : Fin 896 → Fin 256 → EReal) (k : Fin 896) (h : RowOk (rowA (T k))) : rowSc T k = rSc T k := scale_eq _ h

/-- A code: the kernel's is the reference's. -/
theorem co_eq (T : Fin 896 → Fin 256 → EReal) (k : Fin 896) (d : Fin 256) (h : RowOk (rowA (T k))) : rowCo T k d = rCo T k d := by
  show clipS (T k d * invS (rowA (T k))) = clipS (T k d * invR (rowA (T k)))
  rw [inv_eq _ h]

/-- A score: the reference's is the kernel's. -/
theorem pre_eq (X K : Fin 896 → Fin 256 → EReal) (hX : ∀ q, RowOk (rowA (X q))) (hK : ∀ k, RowOk (rowA (K k))) (q k : Fin 896) :
    preS X K q k = scoreS X K q k := by
  unfold preS scoreS
  rw [score_eq, sc_eq X q (hX q), sc_eq K k (hK k)]
  congr 2
  refine Finset.sum_congr rfl fun d _ => ?_
  rw [co_eq X q d (hX q), co_eq K k d (hK k), mul_comm]

/-- A largest magnitude is not negative. -/
theorem rowA_nonneg (f : Fin 256 → EReal) : 0 ≤ rowA f := by
  have h : 0 ≤ absS (f 0) := by
    unfold absS
    rcases le_total 0 (f 0) with h | h
    · exact h.trans (le_max_left _ _)
    · exact (EReal.neg_nonneg.mpr h).trans (le_max_right _ _)
  exact h.trans (Finset.le_sup (f := fun d => absS (f d)) (Finset.mem_univ 0))

/-- A row of finite numbers has a finite largest magnitude. -/
theorem rowA_ne_top (f : Fin 256 → EReal) (h : ∀ d, absS (f d) < ⊤) : rowA f ≠ ⊤ := by
  have : rowA f < ⊤ := (Finset.sup_lt_iff (by exact bot_lt_top)).mpr fun d _ => h d
  exact this.ne

/-- A scale of a row of finite numbers is a positive number. -/
theorem sc_pos (T : Fin 896 → Fin 256 → EReal) (k : Fin 896) (h : ∀ d, absS (T k d) < ⊤) : ∃ s : ℝ, 0 < s ∧ rSc T k = s := by
  obtain ⟨s, hs, e, -⟩ := scaleR_pos (rowA (T k)) (rowA_nonneg _) (rowA_ne_top _ h)
  exact ⟨s, hs, e⟩

/-- A clamped number is a number. -/
theorem clip_real (x : EReal) : ∃ r : ℝ, clipS x = r := by
  have h1 : ((-448 : ℝ) : EReal) ≤ clipS x := by
    unfold clipS
    exact le_min (le_max_right _ _) (EReal.coe_le_coe_iff.mpr (by norm_num))
  have h2 : clipS x ≤ ((448 : ℝ) : EReal) := min_le_right _ _
  have hb : clipS x ≠ ⊥ := fun e => by rw [e] at h1; exact absurd h1 (by simp)
  have ht : clipS x ≠ ⊤ := fun e => by rw [e] at h2; exact absurd h2 (by simp)
  exact ⟨(clipS x).toReal, (EReal.coe_toReal ht hb).symm⟩

/-- One number of the result: the kernel's is the reference's. -/
theorem out_eq (X K V : Fin 896 → Fin 256 → EReal) (hX : ∀ q, RowOk (rowA (X q))) (hK : ∀ k, RowOk (rowA (K k))) (hV : ∀ k, RowOk (rowA (V k)))
    (hF : ∀ k d, absS (V k d) < ⊤) (q : Fin 896) (d : Fin 256) :
    outS X K V q d = refRow (capS X K q) (rSc V) (fun k => rCo V k d) (fun k : Fin 896 => k.val ≤ q.val) := by
  choose vS hpos hvS using fun k => sc_pos V k (hF k)
  choose vc hvc using fun k => clip_real (V k d * invR (rowA (V k)))
  have e1 : expS X K q = fun k : Fin 896 => if k.val ≤ q.val then ((Real.exp (capR (scoreS X K q k)) : ℝ) : EReal) else 0 := by
    funext k
    unfold expS
    by_cases h : k.val ≤ q.val
    · rw [if_pos h, if_pos h]; exact exp2_cap _
    · rw [if_neg h, if_neg h]
  have e2 : rowSc V = fun k => ((vS k : ℝ) : EReal) := funext fun k => (sc_eq V k (hV k)).trans (hvS k)
  have e3 : (fun k => rowCo V k d) = fun k => ((vc k : ℝ) : EReal) := funext fun k => (co_eq V k d (hV k)).trans (hvc k)
  have e4 : capS X K q = fun k => ((capR (scoreS X K q k) : ℝ) : EReal) := by
    funext k
    unfold capS
    rw [pre_eq X K hX hK]
    exact ref_cap _
  have e5 : rSc V = fun k => ((vS k : ℝ) : EReal) := funext hvS
  have e6 : (fun k => rCo V k d) = fun k => ((vc k : ℝ) : EReal) := funext hvc
  unfold outS
  rw [e1, e2, e3, e4, e5, e6]
  exact row_eq (fun k => capR (scoreS X K q k)) vS vc (fun k : Fin 896 => k.val ≤ q.val) 0 (Nat.zero_le _) hpos

/-- What the kernel's body asks of the values holds. -/
theorem vok (V : Cert.KernelIdeal.S3x896x1024.Idx → EReal) (hV : ∀ b h k, RowOk (rowA (headK V b h k))) (hF : ∀ y, absS (V y) < ⊤) : VOk V := by
  intro b h
  choose vS hpos hvS using fun k => sc_pos (headK V b h) k (fun d => hF _)
  have e2 : rowSc (headK V b h) = fun k => ((vS k : ℝ) : EReal) := funext fun k => (sc_eq _ k (hV b h k)).trans (hvS k)
  obtain ⟨M, hM, -, -⟩ := sup_coe vS
  rw [e2]
  have hm : vmaxS (fun k => ((vS k : ℝ) : EReal)) = ((max M (1 / 2 ^ 86) : ℝ) : EReal) := by
    unfold vmaxS
    rw [hM]
    exact (EReal.coe_strictMono.monotone.map_max (a := M) (b := 1 / 2 ^ 86)).symm
  have hp : 0 < max M (1 / 2 ^ 86 : ℝ) := lt_max_of_lt_right (by positivity)
  unfold vnormS
  rw [hm, div_coe_coe _ _ hp.ne', ← EReal.coe_mul, ← EReal.coe_mul]
  have := hpos 0
  exact_mod_cast (by positivity : (0 : ℝ) ≤ vS 0 * (1 * (max M (1 / 2 ^ 86 : ℝ))⁻¹ * 2 ^ 40))

section

variable (x0 : Cert.KernelIdeal.S3x896x2048.Idx → EReal) (x1 x2 : Cert.KernelIdeal.S3x896x1024.Idx → EReal)

/-- The attention. -/
theorem res0 (h0 : ∀ b h q, RowOk (rowA (headQ x0 b h q))) (h1 : ∀ b h q, RowOk (rowA (headK x1 b h q))) (h2 : ∀ b h q, RowOk (rowA (headK x2 b h q)))
    (hF : ∀ y, absS (x2 y) < ⊤) : resO x0 x1 x2 = val_main_v152 (F := Ideal) x0 x1 x2 := by
  funext y
  obtain ⟨b, q, l, rfl⟩ : ∃ (b : Fin 3) (q : Fin 896) (l : Fin 2048), y = ix3 b q l := ⟨y 0, y 1, y 2, ValueIdx.eq_ix3 y⟩
  rw [out_at]
  exact out_eq _ _ _ (h0 _ _) (h1 _ _) (h2 _ _) (fun k d => hF _) _ _

/-- The query codes. -/
theorem res1 (h0 : ∀ b h q, RowOk (rowA (headQ x0 b h q))) : resQc x0 = val_main_v154 (F := Ideal) x0 := by
  funext y
  rw [x_codes]
  exact co_eq _ _ _ (h0 _ _ _)

/-- The query scales. -/
theorem res2 (h0 : ∀ b h q, RowOk (rowA (headQ x0 b h q))) : resQs x0 = val_main_v25 (F := Ideal) x0 := by
  funext y
  rw [x_scale]
  exact sc_eq _ _ (h0 _ _ _)

/-- The key codes. -/
theorem res3 (h1 : ∀ b h q, RowOk (rowA (headK x1 b h q))) : resKc x1 = val_main_v156 (F := Ideal) x1 := by
  funext y
  rw [k_codes]
  exact co_eq _ _ _ (h1 _ _ _)

/-- The key scales. -/
theorem res4 (h1 : ∀ b h q, RowOk (rowA (headK x1 b h q))) : resKs x1 = val_main_v51 (F := Ideal) x1 := by
  funext y
  rw [k_scale]
  exact sc_eq _ _ (h1 _ _ _)

/-- The value codes. -/
theorem res5 (h2 : ∀ b h q, RowOk (rowA (headK x2 b h q))) : resKc x2 = val_main_v158 (F := Ideal) x2 := by
  funext y
  rw [v_codes]
  exact co_eq _ _ _ (h2 _ _ _)

/-- The value scales. -/
theorem res6 (h2 : ∀ b h q, RowOk (rowA (headK x2 b h q))) : resKs x2 = val_main_v77 (F := Ideal) x2 := by
  funext y
  rw [v_scale]
  exact sc_eq _ _ (h2 _ _ _)

end

end Cert.Join
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Join

@[expose] public section

set_option maxRecDepth 16384

noncomputable section

namespace Cert.Proof

open Idealize.ShloMosaic Idealize.SL.Sem Idealize.ShloMosaic.TcCoe
open Cert.KernelIdeal.Arrays

/-- The kernel runs and leaves its arguments and counters as they were. -/
theorem frame_p : Cert.quiescent_Kernel := fun m ρ _ => Cert.Kernel.Gen.frame m ρ
/-- So does the kernel over the reals. -/
theorem frame_pi : Cert.quiescent_KernelIdeal := fun m ρ _ => Cert.KernelIdeal.Gen.frame m ρ
/-- So does the kernel over the reals, of inputs that meet the precondition. -/
theorem frame_pi' : Cert.quiescent_KernelIdeal_pre_inputs_ok := fun m ρ _ => Cert.KernelIdeal.Gen.frame m ρ
/-- So does the reference. -/
theorem frame_ri : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)
/-- So does the reference, of inputs that meet the precondition. -/
theorem frame_ri' : Cert.quiescent_ReferenceIdeal_pre_inputs_ok := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

/-- The three named constants. -/
theorem preserves : Cert.preserves_Kernel_KernelIdeal :=
  ⟨IdealRules.named_const.statement Cert.KernelIdeal.κ "inv_ln2" .f32 0x3FB8AA3B#32 (((Real.log 2)⁻¹ : ℝ) : EReal) rfl,
    IdealRules.named_const.statement Cert.KernelIdeal.κ "inv_800" .f32 0x3AA3D70A#32 ((1 / 800 : ℝ) : EReal) rfl,
    IdealRules.named_const.statement Cert.KernelIdeal.κ "cap_log2e" .f32 0x429044FE#32 ((50 * (Real.log 2)⁻¹ : ℝ) : EReal) rfl⟩

/-- Over the reals the seven results of the kernel are the reference's. -/
theorem algebraic : Cert.algebraic_KernelIdeal_ReferenceIdeal_pre_inputs_ok := by
  intro m ρ m' ρ' hpre hagree
  refine ⟨_, _, _, _, _, _, _, Cert.KernelIdeal.Value.run_blocks (F := Ideal) m ρ, ?_⟩
  refine (θ_run Cert.ReferenceIdeal.defs _ _).mono (fun r h c => ?_) (Cert.ReferenceIdeal.Value.run (F := Ideal) m' ρ')
  obtain ⟨a0, a1, a2⟩ := hagree c
  obtain ⟨o0, o1, o2, hF⟩ := Cert.Pre_inputs_ok.decode _ _ _ (hpre c)
  obtain ⟨r0, r1, r2, r3, r4, r5, r6, k⟩ := h c
  have e0 := r0.trans (Cert.ReferenceIdeal.Read.val_main_v152_eq (F := Ideal) (StableHlo.launchContents m' c))
  have e1 := r1.trans (Cert.ReferenceIdeal.Read.val_main_v154_eq (F := Ideal) (StableHlo.launchContents m' c))
  have e2 := r2.trans (Cert.ReferenceIdeal.Read.val_main_v25_eq (F := Ideal) (StableHlo.launchContents m' c))
  have e3 := r3.trans (Cert.ReferenceIdeal.Read.val_main_v156_eq (F := Ideal) (StableHlo.launchContents m' c))
  have e4 := r4.trans (Cert.ReferenceIdeal.Read.val_main_v51_eq (F := Ideal) (StableHlo.launchContents m' c))
  have e5 := r5.trans (Cert.ReferenceIdeal.Read.val_main_v158_eq (F := Ideal) (StableHlo.launchContents m' c))
  have e6 := r6.trans (Cert.ReferenceIdeal.Read.val_main_v77_eq (F := Ideal) (StableHlo.launchContents m' c))
  rw [StableHlo.launchContents_devRef, StableHlo.launchContents_devRef, StableHlo.launchContents_devRef, a0, a1, a2] at e0
  rw [StableHlo.launchContents_devRef, a0] at e1 e2
  rw [StableHlo.launchContents_devRef, a1] at e3 e4
  rw [StableHlo.launchContents_devRef, a2] at e5 e6
  exact ⟨e0.trans ((final3 m c (Cert.Join.vok _ o2 hF)).trans (Cert.Join.res0 _ _ _ o0 o1 o2 hF)).symm,
    e1.trans ((final4 m c).trans (Cert.Join.res1 _ o0)).symm,
    e2.trans ((final5 m c).trans (Cert.Join.res2 _ o0)).symm,
    e3.trans ((final6 m c).trans (Cert.Join.res3 _ o1)).symm,
    e4.trans ((final7 m c).trans (Cert.Join.res4 _ o1)).symm,
    e5.trans ((final8 m c).trans (Cert.Join.res5 _ o2)).symm,
    e6.trans ((final9 m c).trans (Cert.Join.res6 _ o2)).symm, k⟩

theorem claim : Cert.Claim := ⟨Cert.Kernel.Gen.facts, Cert.KernelIdeal.Gen.facts, Cert.ReferenceIdeal.Gen.facts, Cert.Pre_inputs_ok.facts,
  frame_p, frame_pi, frame_pi', frame_ri, frame_ri', preserves, algebraic⟩

end Cert.Proof

end
